-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys_KernelIdeal [hPre_finite_queries_and_keys_KernelIdeal : Cert.Pre_finite_queries_and_keys_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys_ReferenceIdeal [hPre_finite_queries_and_keys_ReferenceIdeal : Cert.Pre_finite_queries_and_keys_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_and_keys_KernelIdeal [hKernelIdeal : Cert.KernelIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_and_keys_ReferenceIdeal [hReferenceIdeal : Cert.ReferenceIdeal.Facts] [hPre_finite_queries_and_keys_ReferenceIdeal : Cert.Pre_finite_queries_and_keys_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_queries_and_keys_KernelIdeal [hKernelIdeal : Cert.KernelIdeal.Facts] [hReferenceIdeal : Cert.ReferenceIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![2, 2048, 768]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 512, 768]⟩ ⟨3, ![2, 2048, 768]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_queries_and_keys_KernelIdeal : Cert.Pre_finite_queries_and_keys_KernelIdeal.Facts) (hPre_finite_queries_and_keys_ReferenceIdeal : Cert.Pre_finite_queries_and_keys_ReferenceIdeal.Facts),
    quiescent_Kernel (hKernel := hKernel)
    ∧ quiescent_KernelIdeal (hKernelIdeal := hKernelIdeal)
    ∧ quiescent_KernelIdeal_pre_finite_queries_and_keys_KernelIdeal (hKernelIdeal := hKernelIdeal) (hPre_finite_queries_and_keys_KernelIdeal := hPre_finite_queries_and_keys_KernelIdeal)
    ∧ quiescent_ReferenceIdeal (hReferenceIdeal := hReferenceIdeal)
    ∧ quiescent_ReferenceIdeal_pre_finite_queries_and_keys_ReferenceIdeal (hReferenceIdeal := hReferenceIdeal) (hPre_finite_queries_and_keys_ReferenceIdeal := hPre_finite_queries_and_keys_ReferenceIdeal)
    ∧ preserves_Kernel_KernelIdeal
    ∧ algebraic_KernelIdeal_ReferenceIdeal_pre_finite_queries_and_keys_KernelIdeal (hKernelIdeal := hKernelIdeal) (hReferenceIdeal := hReferenceIdeal) (hPre_finite_queries_and_keys_KernelIdeal := hPre_finite_queries_and_keys_KernelIdeal)
-- ==== Pre_finite_queries_and_keys_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .bf16) (main_arg1 : FVec F S768x512 .bf16) (main_arg2 : FVec F S2x512x8x64 .bf16) (main_arg3 : FVec F S2x512x8x64 .bf16) (main_arg4 : FVec F S512x768 .bf16) : IVec S_ 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .bf16 := Host.absf main_arg1
  let main_cst_0 : FVec F S_ .bf16 := constant S_ .bf16 0x7F80#16
  let main_v5 : FVec F S768x512 .bf16 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x8x64 .bf16 := Host.absf main_arg2
  let main_cst_2 : FVec F S_ .bf16 := constant S_ .bf16 0x7F80#16
  let main_v10 : FVec F S2x512x8x64 .bf16 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_finite_queries_and_keys_ReferenceIdeal.lean ====
abbrev S2x2048x768 : Shape := ⟨3, ![2, 2048, 768]⟩
abbrev S768x512 : Shape := ⟨2, ![768, 512]⟩
abbrev S2x2048x8x64 : Shape := ⟨4, ![2, 2048, 8, 64]⟩
abbrev S512x768 : Shape := ⟨2, ![512, 768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_

variable [Facts]

def fn {F : FTy → Type} [FloatOps F] (main_arg0 : FVec F S2x2048x768 .bf16) (main_arg1 : FVec F S768x512 .bf16) (main_arg2 : FVec F S2x2048x8x64 .bf16) (main_arg3 : FVec F S2x2048x8x64 .bf16) (main_arg4 : FVec F S512x768 .bf16) : IVec S_ 1 :=
  let main_v0 : FVec F S2x2048x768 .bf16 := Host.absf main_arg0
  let main_cst : FVec F S_ .bf16 := constant S_ .bf16 0x7F80#16
  let main_v1 : FVec F S2x2048x768 .bf16 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S768x512 .bf16 := Host.absf main_arg1
  let main_cst_0 : FVec F S_ .bf16 := constant S_ .bf16 0x7F80#16
  let main_v5 : FVec F S768x512 .bf16 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x2048x8x64 .bf16 := Host.absf main_arg2
  let main_cst_2 : FVec F S_ .bf16 := constant S_ .bf16 0x7F80#16
  let main_v10 : FVec F S2x2048x8x64 .bf16 := broadcastInDim S2x2048x8x64 ![] bcast_S_S2x2048x8x64 main_cst_2
  let main_v11 : IVec S2x2048x8x64 1 := cmpf .olt main_v9 main_v10
  let main_c_3 : IVec S_ 1 := constantI S_ 1 1#1
  let main_v12 : IVec S_ 1 := (fun x v => Host.reduce IntOp.andi x v reducesTo_S2x2048x8x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S2x512x512 : Shape := ⟨3, ![2, 512, 512]⟩
abbrev S3x2x512x512 : Shape := ⟨4, ![3, 2, 512, 512]⟩
abbrev S4x2 : Shape := ⟨2, ![4, 2]⟩
abbrev S_ : Shape := ⟨0, ![]⟩
abbrev S1x1 : Shape := ⟨2, ![1, 1]⟩
abbrev S1x1x512x512 : Shape := ⟨4, ![1, 1, 512, 512]⟩
abbrev S512x512 : Shape := ⟨2, ![512, 512]⟩
abbrev S1x512x512 : Shape := ⟨3, ![1, 512, 512]⟩
abbrev S1x512x768 : Shape := ⟨3, ![1, 512, 768]⟩
abbrev S512x64 : Shape := ⟨2, ![512, 64]⟩
abbrev S512x1 : Shape := ⟨2, ![512, 1]⟩
abbrev S1x512x64 : Shape := ⟨3, ![1, 512, 64]⟩
abbrev S512 : Shape := ⟨1, ![512]⟩
abbrev S1x1x512x256 : Shape := ⟨4, ![1, 1, 512, 256]⟩
abbrev S512x256 : Shape := ⟨2, ![512, 256]⟩
abbrev S1x1x512x64 : Shape := ⟨4, ![1, 1, 512, 64]⟩
abbrev S256x768 : Shape := ⟨2, ![256, 768]⟩
abbrev S1x512x256 : Shape := ⟨3, ![1, 512, 256]⟩

abbrev nBuf : Space → Nat
  | .hbm => 6
  | .vmem => 11
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x8x64, .bf16⟩
  | .hbm, ⟨3, _⟩ => ⟨S2x512x8x64, .bf16⟩
  | .hbm, ⟨4, _⟩ => ⟨S512x768, .bf16⟩
  | .hbm, ⟨5, _⟩ => ⟨S2x512x768, .bf16⟩
  | .local _ .vmem, ⟨0, _⟩ => ⟨S2x512x768, .bf16⟩
  | .local _ .vmem, ⟨1, _⟩ => ⟨S768x512, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S512x768, .bf16⟩
  | .local _ .vmem, ⟨5, _⟩ => ⟨S2x512x768, .bf16⟩
  | .local _ .vmem, ⟨6, _⟩ => ⟨S2x512x512, .bf16⟩
  | .local _ .vmem, ⟨7, _⟩ => ⟨S2x512x512, .bf16⟩
  | .local _ .vmem, ⟨8, _⟩ => ⟨S3x2x512x512, .bf16⟩
  | .local _ .vmem, ⟨9, _⟩ => ⟨S3x2x512x512, .bf16⟩
  | .local _ .vmem, ⟨10, _⟩ => ⟨S2x512x512, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_23 : BitVec 32 := 1#32
  let v19 : BitVec 32 := Scalar.muli v7 c1_i32_23
  let v20 : BitVec 32 := Scalar.addi c0_i32_24 v19
  v20.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_36 : BitVec 32 := 1#32
  let v29 : BitVec 32 := Scalar.muli v5 c1_i32_36
  let v30 : BitVec 32 := Scalar.addi c0_i32_37 v29
  v30.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_49 : BitVec 32 := 1#32
  let v39 : BitVec 32 := Scalar.muli v5 c1_i32_49
  let v40 : BitVec 32 := Scalar.addi c0_i32_50 v39
  v40.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_62 : BitVec 32 := 1#32
  let v49 : BitVec 32 := Scalar.muli v7 c1_i32_62
  let v50 : BitVec 32 := Scalar.addi c0_i32_63 v49
  v50.toNat
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_82 : BitVec 32 := 1#32
  let v65 : BitVec 32 := Scalar.muli v7 c1_i32_82
  let v66 : BitVec 32 := Scalar.addi c0_i32_83 v65
  v66.toNat
def k0_dev8 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_95 : BitVec 32 := 1#32
  let v75 : BitVec 32 := Scalar.muli v5 c1_i32_95
  let v76 : BitVec 32 := Scalar.addi c0_i32_96 v75
  v76.toNat
def k0_dev9 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_108 : BitVec 32 := 1#32
  let v85 : BitVec 32 := Scalar.muli v5 c1_i32_108
  let v86 : BitVec 32 := Scalar.addi c0_i32_109 v85
  v86.toNat
def k0_dev10 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_121 : BitVec 32 := 1#32
  let v95 : BitVec 32 := Scalar.muli v7 c1_i32_121
  let v96 : BitVec 32 := Scalar.addi c0_i32_122 v95
  v96.toNat
def k0_dev11 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_477 : BitVec 32 := 1#32
  let v558 : BitVec 32 := Scalar.muli v7 c1_i32_477
  let v559 : BitVec 32 := Scalar.addi c0_i32_478 v558
  v559.toNat
def k0_dev12 (d0 : Dev nD) : Nat :=
  let c0_i32_492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_491 : BitVec 32 := 1#32
  let v568 : BitVec 32 := Scalar.muli v5 c1_i32_491
  let v569 : BitVec 32 := Scalar.addi c0_i32_492 v568
  v569.toNat
def k0_dev13 (d0 : Dev nD) : Nat :=
  let c0_i32_506 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_505 : BitVec 32 := 1#32
  let v578 : BitVec 32 := Scalar.muli v7 c1_i32_505
  let v579 : BitVec 32 := Scalar.addi c0_i32_506 v578
  v579.toNat
def k0_dev14 (d0 : Dev nD) : Nat :=
  let c0_i32_520 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_519 : BitVec 32 := 1#32
  let v588 : BitVec 32 := Scalar.muli v5 c1_i32_519
  let v589 : BitVec 32 := Scalar.addi c0_i32_520 v588
  v589.toNat
def k0_dev15 (d0 : Dev nD) : Nat :=
  let c0_i32_533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_532 : BitVec 32 := 1#32
  let v598 : BitVec 32 := Scalar.muli v7 c1_i32_532
  let v599 : BitVec 32 := Scalar.addi c0_i32_533 v598
  v599.toNat
def k0_dev16 (d0 : Dev nD) : Nat :=
  let c0_i32_546 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_545 : BitVec 32 := 1#32
  let v608 : BitVec 32 := Scalar.muli v5 c1_i32_545
  let v609 : BitVec 32 := Scalar.addi c0_i32_546 v608
  v609.toNat
def k0_dev17 (d0 : Dev nD) : Nat :=
  let c0_i32_560 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_559 : BitVec 32 := 1#32
  let v618 : BitVec 32 := Scalar.muli v7 c1_i32_559
  let v619 : BitVec 32 := Scalar.addi c0_i32_560 v618
  v619.toNat
def k0_dev18 (d0 : Dev nD) : Nat :=
  let c0_i32_574 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_573 : BitVec 32 := 1#32
  let v628 : BitVec 32 := Scalar.muli v5 c1_i32_573
  let v629 : BitVec 32 := Scalar.addi c0_i32_574 v628
  v629.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x768 : Shape := ⟨3, ![2, 2048, 768]⟩
abbrev S768x512 : Shape := ⟨2, ![768, 512]⟩
abbrev S2x2048x8x64 : Shape := ⟨4, ![2, 2048, 8, 64]⟩
abbrev S512x768 : Shape := ⟨2, ![512, 768]⟩
abbrev S2x2048x512 : Shape := ⟨3, ![2, 2048, 512]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2x8x2048x2048 : Shape := ⟨4, ![2, 8, 2048, 2048]⟩
abbrev S1x1x2048x2048 : Shape := ⟨4, ![1, 1, 2048, 2048]⟩
abbrev S2x8x2048 : Shape := ⟨3, ![2, 8, 2048]⟩
abbrev S2x8x2048x1 : Shape := ⟨4, ![2, 8, 2048, 1]⟩
abbrev S1x1x2048x1 : Shape := ⟨4, ![1, 1, 2048, 1]⟩
abbrev S2x8x64x2048 : Shape := ⟨4, ![2, 8, 64, 2048]⟩

abbrev nBuf : Space → Nat
  | .hbm => 147
  | .vmem => 0
  | .smem => 0
  | _ => 0

abbrev hbmTy0_0 (i : Nat) : BufTy := match i % 128 with
  | 0 => ⟨S2x2048x768, .bf16⟩
  | 1 => ⟨S768x512, .bf16⟩
  | 2 => ⟨S2x2048x8x64, .bf16⟩
  | 3 => ⟨S2x2048x8x64, .bf16⟩
  | 4 => ⟨S512x768, .bf16⟩
  | 5 => ⟨S2x2048x768, .f32⟩
  | 6 => ⟨S768x512, .f32⟩
  | 7 => ⟨S2x2048x8x64, .f32⟩
  | 8 => ⟨S2x2048x8x64, .f32⟩
  | 9 => ⟨S512x768, .f32⟩
  | 10 => ⟨S2x2048x512, .f32⟩
  | 11 => ⟨S2x2048x512, .bf16⟩
  | 12 => ⟨S2x2048x512, .f32⟩
  | 13 => ⟨S2x2048x8x64, .f32⟩
  | 14 => ⟨S2048, .i32⟩
  | 15 => ⟨S_, .i32⟩
  | 16 => ⟨S_, .i32⟩
  | 17 => ⟨S2048, .i32⟩
  | 18 => ⟨S2048, .i32⟩
  | 19 => ⟨S2048, .i32⟩
  | 20 => ⟨S_, .i32⟩
  | 21 => ⟨S2048, .i32⟩
  | 22 => ⟨S2048, .i1⟩
  | 23 => ⟨S2048, .i32⟩
  | 24 => ⟨S2048, .i32⟩
  | 25 => ⟨S_, .i32⟩
  | 26 => ⟨S2048, .i32⟩
  | 27 => ⟨S2048, .i1⟩
  | 28 => ⟨S2048, .i1⟩
  | 29 => ⟨S_, .i32⟩
  | 30 => ⟨S2048, .i32⟩
  | 31 => ⟨S2048, .i32⟩
  | 32 => ⟨S2048, .i32⟩
  | 33 => ⟨S2048x1, .i32⟩
  | 34 => ⟨S2048, .i32⟩
  | 35 => ⟨S_, .i32⟩
  | 36 => ⟨S_, .i32⟩
  | 37 => ⟨S2048, .i32⟩
  | 38 => ⟨S2048, .i32⟩
  | 39 => ⟨S2048, .i32⟩
  | 40 => ⟨S_, .i32⟩
  | 41 => ⟨S2048, .i32⟩
  | 42 => ⟨S2048, .i1⟩
  | 43 => ⟨S2048, .i32⟩
  | 44 => ⟨S2048, .i32⟩
  | 45 => ⟨S_, .i32⟩
  | 46 => ⟨S2048, .i32⟩
  | 47 => ⟨S2048, .i1⟩
  | 48 => ⟨S2048, .i1⟩
  | 49 => ⟨S_, .i32⟩
  | 50 => ⟨S2048, .i32⟩
  | 51 => ⟨S2048, .i32⟩
  | 52 => ⟨S2048, .i32⟩
  | 53 => ⟨S1x2048, .i32⟩
  | 54 => ⟨S2048x2048, .i32⟩
  | 55 => ⟨S2048x2048, .i32⟩
  | 56 => ⟨S2048x2048, .i1⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S1x2048, .i32⟩
  | 64 => ⟨S1x2048, .i32⟩
  | 65 => ⟨S_, .i32⟩
  | 66 => ⟨S1x2048, .i32⟩
  | 67 => ⟨S1x2048, .i1⟩
  | 68 => ⟨S_, .i32⟩
  | 69 => ⟨S1x2048, .i32⟩
  | 70 => ⟨S1x2048, .i1⟩
  | 71 => ⟨S_, .i32⟩
  | 72 => ⟨S_, .i1⟩
  | 73 => ⟨S1x2048, .i1⟩
  | 74 => ⟨S1x2048, .i1⟩
  | 75 => ⟨S1x2048, .i1⟩
  | 76 => ⟨S1x2048, .i32⟩
  | 77 => ⟨S1x2048, .i32⟩
  | 78 => ⟨S1x2048, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S2048x1, .i32⟩
  | 86 => ⟨S2048x1, .i32⟩
  | 87 => ⟨S_, .i32⟩
  | 88 => ⟨S2048x1, .i32⟩
  | 89 => ⟨S2048x1, .i1⟩
  | 90 => ⟨S_, .i32⟩
  | 91 => ⟨S2048x1, .i32⟩
  | 92 => ⟨S2048x1, .i1⟩
  | 93 => ⟨S_, .i32⟩
  | 94 => ⟨S_, .i1⟩
  | 95 => ⟨S2048x1, .i1⟩
  | 96 => ⟨S2048x1, .i1⟩
  | 97 => ⟨S2048x1, .i1⟩
  | 98 => ⟨S2048x1, .i32⟩
  | 99 => ⟨S2048x1, .i32⟩
  | 100 => ⟨S2048x1, .i32⟩
  | 101 => ⟨S2048x2048, .i32⟩
  | 102 => ⟨S2048x2048, .i32⟩
  | 103 => ⟨S2048x2048, .i1⟩
  | 104 => ⟨S2048x2048, .i1⟩
  | 105 => ⟨S2x8x2048x2048, .f32⟩
  | 106 => ⟨S2x8x2048x2048, .bf16⟩
  | 107 => ⟨S2x8x2048x2048, .f32⟩
  | 108 => ⟨S_, .f32⟩
  | 109 => ⟨S2x8x2048x2048, .f32⟩
  | 110 => ⟨S2x8x2048x2048, .f32⟩
  | 111 => ⟨S1x1x2048x2048, .i1⟩
  | 112 => ⟨S_, .f32⟩
  | 113 => ⟨S_, .f32⟩
  | 114 => ⟨S2x8x2048x2048, .i1⟩
  | 115 => ⟨S2x8x2048x2048, .f32⟩
  | 116 => ⟨S2x8x2048x2048, .f32⟩
  | 117 => ⟨S_, .f32⟩
  | 118 => ⟨S2x8x2048, .f32⟩
  | 119 => ⟨S2x8x2048x1, .f32⟩
  | 120 => ⟨S2x8x2048x2048, .f32⟩
  | 121 => ⟨S2x8x2048x2048, .f32⟩
  | 122 => ⟨S2x8x2048x2048, .f32⟩
  | 123 => ⟨S_, .i1⟩
  | 124 => ⟨S2048, .i1⟩
  | 125 => ⟨S1x1x2048x1, .i1⟩
  | 126 => ⟨S_, .f32⟩
  | 127 => ⟨S2x8x2048, .f32⟩
  | _ => ⟨S2x2048x768, .bf16⟩

abbrev hbmTy0_1 (i : Nat) : BufTy := match i % 128 with
  | 0 => ⟨S2x8x2048x1, .f32⟩
  | 1 => ⟨S_, .f32⟩
  | 2 => ⟨S_, .f32⟩
  | 3 => ⟨S2x8x2048x1, .i1⟩
  | 4 => ⟨S2x8x2048x1, .f32⟩
  | 5 => ⟨S2x8x2048x1, .f32⟩
  | 6 => ⟨S2x8x2048x2048, .f32⟩
  | 7 => ⟨S2x8x2048x2048, .f32⟩
  | 8 => ⟨S1x1x2048x1, .i1⟩
  | 9 => ⟨S_, .f32⟩
  | 10 => ⟨S_, .f32⟩
  | 11 => ⟨S2x8x2048x2048, .i1⟩
  | 12 => ⟨S2x8x2048x2048, .f32⟩
  | 13 => ⟨S2x8x2048x2048, .f32⟩
  | 14 => ⟨S2x8x64x2048, .f32⟩
  | 15 => ⟨S2x2048x8x64, .f32⟩
  | 16 => ⟨S2x2048x512, .f32⟩
  | 17 => ⟨S2x2048x768, .f32⟩
  | 18 => ⟨S2x2048x768, .bf16⟩
  | _ => ⟨S2x2048x768, .bf16⟩

abbrev hbmTy (i : Nat) : BufTy := match i / 128 with
  | 0 => hbmTy0_0 i
  | 1 => hbmTy0_1 i
  | _ => ⟨S2x2048x768, .bf16⟩

abbrev bufTy : (tb : Table) → Fin (tcTables nBuf tb) → BufTy
  | .hbm, ⟨i, _⟩ => hbmTy i
  | _, _ => ⟨S2x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_c_1 : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_1 : Ref sig .tc := ⟨.hbm, 65, rfl⟩
abbrev main_call2_v5 : Ref sig .tc := ⟨.hbm, 66, rfl⟩
abbrev main_call2_v6 : Ref sig .tc := ⟨.hbm, 67, rfl⟩
abbrev main_call2_c_2 : Ref sig .tc := ⟨.hbm, 68, rfl⟩
abbrev main_call2_v7 : Ref sig .tc := ⟨.hbm, 69, rfl⟩
abbrev main_call2_v8 : Ref sig .tc := ⟨.hbm, 70, rfl⟩
abbrev main_call2_c_3 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_v18 : Ref sig .tc := ⟨.hbm, 78, rfl⟩
abbrev main_c_2 : Ref sig .tc := ⟨.hbm, 79, rfl⟩
abbrev main_call3_v0 : Ref sig .tc := ⟨.hbm, 80, rfl⟩
abbrev main_call3_c : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_c_1 : Ref sig .tc := ⟨.hbm, 87, rfl⟩
abbrev main_call3_v5 : Ref sig .tc := ⟨.hbm, 88, rfl⟩
abbrev main_call3_v6 : Ref sig .tc := ⟨.hbm, 89, rfl⟩
abbrev main_call3_c_2 : Ref sig .tc := ⟨.hbm, 90, rfl⟩
abbrev main_call3_v7 : Ref sig .tc := ⟨.hbm, 91, rfl⟩
abbrev main_call3_v8 : Ref sig .tc := ⟨.hbm, 92, rfl⟩
abbrev main_call3_c_3 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_v25 : Ref sig .tc := ⟨.hbm, 106, rfl⟩
abbrev main_v26 : Ref sig .tc := ⟨.hbm, 107, rfl⟩
abbrev main_cst : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_cst_3 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v30 : Ref sig .tc := ⟨.hbm, 116, rfl⟩
abbrev main_cst_4 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_c_5 : Ref sig .tc := ⟨.hbm, 123, rfl⟩
abbrev main_v36 : Ref sig .tc := ⟨.hbm, 124, rfl⟩
abbrev main_v37 : Ref sig .tc := ⟨.hbm, 125, rfl⟩
abbrev main_cst_6 : Ref sig .tc := ⟨.hbm, 126, rfl⟩
abbrev main_v38 : Ref sig .tc := ⟨.hbm, 127, rfl⟩
abbrev main_v39 : Ref sig .tc := ⟨.hbm, 128, rfl⟩
abbrev main_cst_7 : Ref sig .tc := ⟨.hbm, 129, rfl⟩
abbrev main_call5_v0 : Ref sig .tc := ⟨.hbm, 130, rfl⟩
abbrev main_call5_v1 : Ref sig .tc := ⟨.hbm, 131, rfl⟩
abbrev main_call5_v2 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_cst_8 : Ref sig .tc := ⟨.hbm, 137, rfl⟩
abbrev main_call6_v0 : Ref sig .tc := ⟨.hbm, 138, rfl⟩
abbrev main_call6_v1 : Ref sig .tc := ⟨.hbm, 139, rfl⟩
abbrev main_call6_v2 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_v49 : Ref sig .tc := ⟨.hbm, 146, rfl⟩

abbrev nD : Nat := 1
abbrev τ : Topo := Topo.v7x

variable {F : FTy → Type} [FloatOps F]
-- ==== Proof.Common.lean ====
/-
The ring of four devices: the memrefs the kernel moves, the cells its transfers complete on, and who writes whom.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

def ring : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)

/-! ## The memrefs -/

abbrev klM : Memref sig .tc .vmem S2x512x512 .bf16 := Memref.whole cc0_scratch0
abbrev vlM : Memref sig .tc .vmem S2x512x512 .bf16 := Memref.whole cc0_scratch1
abbrev kbM : Memref sig .tc .vmem S3x2x512x512 .bf16 := Memref.whole cc0_scratch2
abbrev vbM : Memref sig .tc .vmem S3x2x512x512 .bf16 := Memref.whole cc0_scratch3

/-- Batch `d` of a local block. -/
abbrev locW (M : Memref sig .tc .vmem S2x512x512 .bf16) (d : ℕ) (h : ∀ a, (![d, 0, 0] : Fin 3 → ℕ) a + S1x512x512.size a ≤ S2x512x512.size a) :
    Memref sig .tc .vmem S512x512 .bf16 :=
  (M.slice (Rect.unit (s := S2x512x512) ![d, 0, 0] S1x512x512.size h) (fun _ => rfl)).squeeze S512x512 squeezes_S1x512x512_S512x512
/-- Batch `d` of slot `s` of the gathered blocks. -/
abbrev fullW (M : Memref sig .tc .vmem S3x2x512x512 .bf16) (s d : ℕ)
    (h : ∀ a, (![s, d, 0, 0] : Fin 4 → ℕ) a + S1x1x512x512.size a ≤ S3x2x512x512.size a) : Memref sig .tc .vmem S512x512 .bf16 :=
  (M.slice (Rect.unit (s := S3x2x512x512) ![s, d, 0, 0] S1x1x512x512.size h) (fun _ => rfl)).squeeze S512x512 squeezes_S1x1x512x512_S512x512
/-- Columns `lo … lo + 255` of batch `d` of slot `s`. -/
abbrev halfW (M : Memref sig .tc .vmem S3x2x512x512 .bf16) (s d lo : ℕ)
    (h : ∀ a, (![s, d, 0, lo] : Fin 4 → ℕ) a + S1x1x512x256.size a ≤ S3x2x512x512.size a) : Memref sig .tc .vmem S512x256 .bf16 :=
  (M.slice (Rect.unit (s := S3x2x512x512) ![s, d, 0, lo] S1x1x512x256.size h) (fun _ => rfl)).squeeze S512x256 squeezes_S1x1x512x256_S512x256

/-! ## The cells -/

abbrev barS : Sem sig := (SemArray.scalar (sig.barrier 0 rfl) : Sems sig S_).sem
/-- Entry `(s, d)` of an array of transfer semaphores. -/
abbrev semAt (A : DmaSems sig S4x2) (s d : ℕ) (h : ∀ a, (![s, d] : Fin 2 → ℕ) a + S1x1.size a ≤ S4x2.size a) : DmaSem sig :=
  ((A.slice (Rect.unit (s := S4x2) ![s, d] S1x1.size h)).squeeze S_ squeezes_S1x1_S_).sem

abbrev barCell (c : Dev nD) : GSem nD τ sig := ((c : Thread nD τ), .reg barS)
abbrev dmaCell (c : Dev nD) (q : DmaSem sig) : GSem nD τ sig := ((c : Thread nD τ), .dma q)

/-- The device transfer `j` of device `c` writes: batch 0 travels right and batch 1 left in slots 0, 1 and 3; slot 2, the direct copy, goes the other way. -/
def tgt (j : Fin 8) (c : Dev nD) : Dev nD := match j with
  | 0 => nxt c | 1 => prv c | 2 => nxt c | 3 => prv c | 4 => prv c | 5 => nxt c | 6 => nxt c | 7 => prv c

/-! ## Windows: where they sit and what they read -/

theorem read_locW (M : Memref sig .tc .vmem S2x512x512 .bf16) (d : ℕ) (h) (hd : d < 2) (f : M.view.ty.Contents (Elt F)) (j : S512x512.Idx) :
    (locW M d h).view.read (Elt F) f j = M.view.read (Elt F) f (ix3 (⟨d, hd⟩ : Fin 2) (j 0) (j 1)) := by
  have hj : Shape.reshapeEquiv (squeezes_S1x512x512_S512x512).numel_eq j = ix3 (⟨0, Nat.one_pos⟩ : Fin 1) (j 0) (j 1) := by
    have : j = ix2 (j 0) (j 1) := by ext a; fin_cases a <;> rfl
    rw [this]; exact reshapeEquiv_ix2_1ab _ _ _
  have he : (Rect.unit (s := S2x512x512) ![d, 0, 0] S1x512x512.size h).emb (Shape.reshapeEquiv (squeezes_S1x512x512_S512x512).numel_eq j)
      = ix3 (⟨d, hd⟩ : Fin 2) (j 0) (j 1) := by
    rw [hj]; ext a; fin_cases a <;> simp [Rect.emb, Rect.unit, ix3]
  exact congrArg (M.view.read (Elt F) f) he

theorem read_fullW (M : Memref sig .tc .vmem S3x2x512x512 .bf16) (s d : ℕ) (h) (hs : s < 3) (hd : d < 2) (f : M.view.ty.Contents (Elt F)) (j : S512x512.Idx) :
    (fullW M s d h).view.read (Elt F) f j = M.view.read (Elt F) f (ix4 (⟨s, hs⟩ : Fin 3) (⟨d, hd⟩ : Fin 2) (j 0) (j 1)) := by
  have hj : Shape.reshapeEquiv (squeezes_S1x1x512x512_S512x512).numel_eq j = ix4 (⟨0, Nat.one_pos⟩ : Fin 1) (⟨0, Nat.one_pos⟩ : Fin 1) (j 0) (j 1) := by
    have : j = ix2 (j 0) (j 1) := by ext a; fin_cases a <;> rfl
    rw [this]; exact reshapeEquiv_ix2_11ab _ _ _
  have he : (Rect.unit (s := S3x2x512x512) ![s, d, 0, 0] S1x1x512x512.size h).emb (Shape.reshapeEquiv (squeezes_S1x1x512x512_S512x512).numel_eq j)
      = ix4 (⟨s, hs⟩ : Fin 3) (⟨d, hd⟩ : Fin 2) (j 0) (j 1) := by
    rw [hj]; ext a; fin_cases a <;> simp [Rect.emb, Rect.unit, ix4]
  exact congrArg (M.view.read (Elt F) f) he

theorem read_halfW (M : Memref sig .tc .vmem S3x2x512x512 .bf16) (s d lo : ℕ) (h) (hs : s < 3) (hd : d < 2) (hl : lo + 256 ≤ 512)
    (f : M.view.ty.Contents (Elt F)) (j : S512x256.Idx) :
    (halfW M s d lo h).view.read (Elt F) f j
      = M.view.read (Elt F) f (ix4 (⟨s, hs⟩ : Fin 3) (⟨d, hd⟩ : Fin 2) (j 0) (⟨lo + (j 1).val, by have : (j 1).val < 256 := (j 1).isLt; omega⟩ : Fin 512)) := by
  have hj : Shape.reshapeEquiv (squeezes_S1x1x512x256_S512x256).numel_eq j = ix4 (⟨0, Nat.one_pos⟩ : Fin 1) (⟨0, Nat.one_pos⟩ : Fin 1) (j 0) (j 1) := by
    have : j = ix2 (j 0) (j 1) := by ext a; fin_cases a <;> rfl
    rw [this]; exact reshapeEquiv_ix2_11ab _ _ _
  have he : (Rect.unit (s := S3x2x512x512) ![s, d, 0, lo] S1x1x512x256.size h).emb (Shape.reshapeEquiv (squeezes_S1x1x512x256_S512x256).numel_eq j)
      = ix4 (⟨s, hs⟩ : Fin 3) (⟨d, hd⟩ : Fin 2) (j 0) (⟨lo + (j 1).val, by have : (j 1).val < 256 := (j 1).isLt; omega⟩ : Fin 512) := by
    rw [hj]; ext a; fin_cases a <;> simp [Rect.emb, Rect.unit, ix4]
  exact congrArg (M.view.read (Elt F) f) he

/-- A window written whole with what another contents reads there holds that contents. -/
theorem landed {c : Thread nD τ} {sp : Space} {s : Shape} {e : EltTy} (v : View sig c.2.kind sp s e) (fd g : Buf (Elt F) (v.loc c)) (w : s.Idx → Elt F e)
    (hw : w = v.read (Elt F) g) :
    (v.loc c ↦[v.set]{fullShare} v.write (Elt F) fd w Finset.univ : sProp 𝕄) = (v.loc c ↦[v.set]{fullShare} g) := by
  subst hw
  rw [View.write_read_eq_piecewise, View.setOn_univ]
  exact pointsTo_congr fun i hi => Finset.piecewise_eq_of_mem _ _ _ hi

/-! ## What is gathered -/

/-- The device whose block slot `s`, batch `d` of device `c` receives. -/
def srcD (c : Dev nD) (s d : ℕ) : Dev nD := match s, d with
  | 0, 0 => prv c | 0, _ => nxt c
  | 1, 0 => prv (prv c) | 1, _ => nxt (nxt c)
  | _, 0 => nxt c | _, _ => prv c

/-- The gathered slots of device `c`, the local blocks of the devices being `X`. -/
def gath (X : Dev nD → S2x512x512.Idx → Elt F .bf16) (c : Dev nD) : S3x2x512x512.Idx → Elt F .bf16 :=
  fun i => X (srcD c (i 0).val (i 1).val) (ix3 (i 1) (i 2) (i 3))

end Cert.Attn
-- ==== Proof.Protocol.lean ====
/-
The protocol of the gather: which duties each semaphore cell has, what paying one hands over, and the levels.

Transfer `j` of an array (`j < 8`) is entry `(j / 2, j % 2)` of the semaphore arrays: slots 0 and 2 are whole blocks sent by
the two neighbours, slots 1 and 3 the two column halves of the block that comes from two devices away.
-/
module

public import proofs.«01_k».proof.Proof.Common

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## What a transfer hands over -/

/-- The elements a memref denotes on device `c`, at a share and a contents. -/
abbrev held {s : Shape} (M : Memref sig .tc .vmem s .bf16) (c : Dev nD) (q : PosShare TreeShare) (f : Buf (Elt F) (M.view.loc (c : Thread nD τ))) : sProp 𝕄 :=
  M.view.loc (c : Thread nD τ) ↦[M.view.set]{q} f

/-- Device `c`'s window of transfer `j`, filled. -/
def recvP (M : Memref sig .tc .vmem S3x2x512x512 .bf16) (c : Dev nD) (f : Buf (Elt F) (M.view.loc (c : Thread nD τ))) : ℕ → sProp 𝕄
  | 0 => (fullW M 0 0 inb_S3x2x512x512_S1x1x512x512_0_0_0_0).view.loc (c : Thread nD τ) ↦[(fullW M 0 0 inb_S3x2x512x512_S1x1x512x512_0_0_0_0).view.set]{fullShare} f
  | 1 => (fullW M 0 1 inb_S3x2x512x512_S1x1x512x512_0_1_0_0).view.loc (c : Thread nD τ) ↦[(fullW M 0 1 inb_S3x2x512x512_S1x1x512x512_0_1_0_0).view.set]{fullShare} f
  | 2 => (halfW M 1 0 0 inb_S3x2x512x512_S1x1x512x256_1_0_0_0).view.loc (c : Thread nD τ) ↦[(halfW M 1 0 0 inb_S3x2x512x512_S1x1x512x256_1_0_0_0).view.set]{fullShare} f
  | 3 => (halfW M 1 1 0 inb_S3x2x512x512_S1x1x512x256_1_1_0_0).view.loc (c : Thread nD τ) ↦[(halfW M 1 1 0 inb_S3x2x512x512_S1x1x512x256_1_1_0_0).view.set]{fullShare} f
  | 4 => (fullW M 2 0 inb_S3x2x512x512_S1x1x512x512_2_0_0_0).view.loc (c : Thread nD τ) ↦[(fullW M 2 0 inb_S3x2x512x512_S1x1x512x512_2_0_0_0).view.set]{fullShare} f
  | 5 => (fullW M 2 1 inb_S3x2x512x512_S1x1x512x512_2_1_0_0).view.loc (c : Thread nD τ) ↦[(fullW M 2 1 inb_S3x2x512x512_S1x1x512x512_2_1_0_0).view.set]{fullShare} f
  | 6 => (halfW M 1 0 256 inb_S3x2x512x512_S1x1x512x256_1_0_0_256).view.loc (c : Thread nD τ) ↦[(halfW M 1 0 256 inb_S3x2x512x512_S1x1x512x256_1_0_0_256).view.set]{fullShare} f
  | 7 => (halfW M 1 1 256 inb_S3x2x512x512_S1x1x512x256_1_1_0_256).view.loc (c : Thread nD τ) ↦[(halfW M 1 1 256 inb_S3x2x512x512_S1x1x512x256_1_1_0_256).view.set]{fullShare} f
  | _ => iprop(emp)

abbrev qHop : PosShare TreeShare := fullShare.right.left
abbrev qDir : PosShare TreeShare := fullShare.right.right

/-- The source of transfer `j`, back from it: a share of the local block for slots 0 and 2, of what slot 0 received for the halves. -/
def sendP (Ml : Memref sig .tc .vmem S2x512x512 .bf16) (M : Memref sig .tc .vmem S3x2x512x512 .bf16) (c : Dev nD)
    (fl : Buf (Elt F) (Ml.view.loc (c : Thread nD τ))) (f : Buf (Elt F) (M.view.loc (c : Thread nD τ))) : ℕ → sProp 𝕄
  | 0 => (locW Ml 0 inb_S2x512x512_S1x512x512_0_0_0).view.loc (c : Thread nD τ) ↦[(locW Ml 0 inb_S2x512x512_S1x512x512_0_0_0).view.set]{qHop} fl
  | 1 => (locW Ml 1 inb_S2x512x512_S1x512x512_1_0_0).view.loc (c : Thread nD τ) ↦[(locW Ml 1 inb_S2x512x512_S1x512x512_1_0_0).view.set]{qHop} fl
  | 2 => (halfW M 0 0 0 inb_S3x2x512x512_S1x1x512x256_0_0_0_0).view.loc (c : Thread nD τ) ↦[(halfW M 0 0 0 inb_S3x2x512x512_S1x1x512x256_0_0_0_0).view.set]{fullShare.right} f
  | 3 => (halfW M 0 1 0 inb_S3x2x512x512_S1x1x512x256_0_1_0_0).view.loc (c : Thread nD τ) ↦[(halfW M 0 1 0 inb_S3x2x512x512_S1x1x512x256_0_1_0_0).view.set]{fullShare.right} f
  | 4 => (locW Ml 0 inb_S2x512x512_S1x512x512_0_0_0).view.loc (c : Thread nD τ) ↦[(locW Ml 0 inb_S2x512x512_S1x512x512_0_0_0).view.set]{qDir} fl
  | 5 => (locW Ml 1 inb_S2x512x512_S1x512x512_1_0_0).view.loc (c : Thread nD τ) ↦[(locW Ml 1 inb_S2x512x512_S1x512x512_1_0_0).view.set]{qDir} fl
  | 6 => (halfW M 0 0 256 inb_S3x2x512x512_S1x1x512x256_0_0_0_256).view.loc (c : Thread nD τ) ↦[(halfW M 0 0 256 inb_S3x2x512x512_S1x1x512x256_0_0_0_256).view.set]{fullShare.right} f
  | 7 => (halfW M 0 1 256 inb_S3x2x512x512_S1x1x512x256_0_1_0_256).view.loc (c : Thread nD τ) ↦[(halfW M 0 1 256 inb_S3x2x512x512_S1x1x512x256_0_1_0_256).view.set]{fullShare.right} f
  | _ => iprop(emp)

instance recvP_storable (M) (c : Dev nD) (f) (j : ℕ) : BI.Storable (upEmb : UEmb _ 𝕄) (recvP (F := F) M c f j) := by
  unfold recvP; split <;> infer_instance
instance sendP_storable (Ml M) (c : Dev nD) (fl f) (j : ℕ) : BI.Storable (upEmb : UEmb _ 𝕄) (sendP (F := F) Ml M c fl f j) := by
  unfold sendP; split <;> infer_instance

/-- What the signal of device `n` hands its neighbour: `n`'s windows the neighbour fills, for `K` and for `V`. -/
def barP (n : Dev nD) (j₁ j₂ j₃ j₄ : ℕ) : sProp 𝕄 :=
  iprop((∃ f, recvP kbM n f j₁) ∗ (∃ f, recvP kbM n f j₂) ∗ (∃ f, recvP kbM n f j₃) ∗ (∃ f, recvP kbM n f j₄)
    ∗ (∃ f, recvP vbM n f j₁) ∗ (∃ f, recvP vbM n f j₂) ∗ (∃ f, recvP vbM n f j₃) ∗ (∃ f, recvP vbM n f j₄))

instance barP_storable (n : Dev nD) (a b d e : ℕ) : BI.Storable (upEmb : UEmb _ 𝕄) (barP (F := F) n a b d e) := by
  unfold barP; infer_instance

/-- The barrier duty `true` of `c` is `nxt c`'s (it hands what `c` sends right), the duty `false` is `prv c`'s. -/
def barPay (c : Dev nD) : Bool → sProp 𝕄
  | true => barP (nxt c) 0 2 5 6
  | false => barP (prv c) 1 3 4 7

/-! ## The schedule -/

/-- Transfer index of a transfer cell's number, and which of the four arrays it is in. -/
abbrev trJ (n : ℕ) : ℕ := (n - 6) % 8
abbrev trA (n : ℕ) : ℕ := (n - 6) / 8

/-- Whether transfer `j` moves half a block. -/
abbrev isHalf (j : ℕ) : Bool := j / 2 % 2 == 1

def dmaAmt (n : ℕ) : ℕ := bif isHalf (trJ n) then 8192 else 16384

variable (KL VL : Dev nD → S2x512x512.Idx → Elt F .bf16)

def dmaPay (n : ℕ) (c : Dev nD) : sProp 𝕄 := match trA n with
  | 0 => sendP klM kbM c (KL c) (gath KL c) (trJ n)
  | 1 => recvP kbM c (gath KL c) (trJ n)
  | 2 => sendP vlM vbM c (VL c) (gath VL c) (trJ n)
  | _ => recvP vbM c (gath VL c) (trJ n)

instance dmaPay_storable (n : ℕ) (c : Dev nD) : BI.Storable (upEmb : UEmb _ 𝕄) (dmaPay KL VL n c) := by
  unfold dmaPay; split <;> infer_instance

def semDuties : SemLoc sig → Finset Bool
  | .reg _ => Finset.univ
  | .dma _ => {false}
def semAmt : SemLoc sig → ℕ
  | .reg _ => 1
  | .dma n => dmaAmt n.val
def semPay : SemLoc sig → Dev nD → Bool → sProp 𝕄
  | .reg _, c, d => barPay c d
  | .dma n, c, _ => dmaPay KL VL n.val c

instance semPay_storable (s : SemLoc sig) (c : Dev nD) (d : Bool) : BI.Storable (upEmb : UEmb _ 𝕄) (semPay KL VL s c d) := by
  unfold semPay barPay; repeat' split
  all_goals infer_instance

def dutiesAt (r : ℕ) (g : GSem nD τ sig) : Finset Bool := match r with
  | 0 => if g.1.2 = .tc then semDuties g.2 else ∅
  | _ + 1 => ∅

/-- Every cell has one round. -/
def Rd : Rounds.Schedule (GSem nD τ sig) Bool 𝕄 where
  duties g r := dutiesAt r g
  unitless _ := False
  amount g _ _ := semAmt g.2
  payload g _ d := semPay KL VL g.2 g.1.1 d
  amount_pos g _ _ _ := by
    show 0 < semAmt g.2
    unfold semAmt dmaAmt
    split
    · exact Nat.one_pos
    · cases isHalf _ <;> decide

instance Rd_payload_storable (g : GSem nD τ sig) (r : ℕ) (d : Bool) : BI.Storable (upEmb : UEmb _ 𝕄) ((Rd KL VL).payload g r d) :=
  semPay_storable KL VL g.2 g.1.1 d

theorem duties_bar (c : Dev nD) : (Rd KL VL).duties (barCell c) 0 = Finset.univ := rfl
theorem duties_dma (c : Dev nD) (q : DmaSem sig) : (Rd KL VL).duties (dmaCell c q) 0 = {false} := rfl
theorem duties_later (g : GSem nD τ sig) : ∀ r, 1 ≤ r → (Rd KL VL).duties g r = ∅ := fun r hr => by
  cases r with
  | zero => omega
  | succ r => rfl
theorem amount_bar (c : Dev nD) (d : Bool) : (Rd KL VL).amount (barCell c) 0 d = 1 := rfl
theorem amount_dma (c : Dev nD) (q : DmaSem sig) (d : Bool) : (Rd KL VL).amount (dmaCell c q) 0 d = dmaAmt q.val := rfl
theorem expect_bar (c : Dev nD) : (Rd KL VL).expect (barCell c) 0 = 2 := by
  unfold Schedule.expect Schedule.amountOf
  rw [duties_bar, Finset.sum_congr rfl fun d _ => amount_bar KL VL c d, Finset.sum_const, Finset.card_univ, Fintype.card_bool, smul_eq_mul]
theorem expect_dma (c : Dev nD) (q : DmaSem sig) : (Rd KL VL).expect (dmaCell c q) 0 = dmaAmt q.val := by
  unfold Schedule.expect Schedule.amountOf; rw [duties_dma KL VL c q, Finset.sum_singleton, amount_dma]
theorem payload_bar (c : Dev nD) (d : Bool) : (Rd KL VL).payload (barCell c) 0 d = barPay c d := rfl
theorem payload_dma (c : Dev nD) (q : DmaSem sig) (d : Bool) : (Rd KL VL).payload (dmaCell c q) 0 d = dmaPay KL VL q.val c := rfl

theorem rest_bar (c : Dev nD) : bigSep ((Rd KL VL).duties (barCell c) 0 \ ∅) (fun d => (Rd KL VL).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_dma (c : Dev nD) (q : DmaSem sig) :
    bigSep ((Rd KL VL).duties (dmaCell c q) 0 \ ∅) (fun d => (Rd KL VL).payload (dmaCell c q) 0 d) = dmaPay KL VL q.val c := by
  rw [Finset.sdiff_empty, duties_dma KL VL c q, bigSep_singleton, payload_dma]

/-! ## Levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- A transfer cell's level: 0 for staging and departures, 2 for the arrivals of slots 0 and 2, 3 for the halves. -/
def dmaLv (n : ℕ) : ℕ := bif Nat.ble 6 n && trA n % 2 == 1 then (bif isHalf (trJ n) then 3 else 2) else 0
def lv (g : GSem nD τ sig) (_ : Unit) : ℕ := match g.2 with
  | .reg _ => 1
  | .dma n => dmaLv n.val

/-- Everything owed is owed to cells above the level `k`. -/
def Above (k : ℕ) (O : CellTallies nD τ sig Unit) : Prop := ∀ g u, 0 < O g u → u ∈ L g ∧ k < lv g u

theorem above_zero (k : ℕ) : Above k 0 := fun g u h => absurd h (Nat.lt_irrefl 0)
theorem above_add {k : ℕ} {A B : CellTallies nD τ sig Unit} (hA : Above k A) (hB : Above k B) : Above k (A + B) := fun g u h => by
  rw [Pi.add_apply, Finsupp.add_apply] at h
  rcases Nat.eq_zero_or_pos (A g u) with h0 | h0
  · exact hB g u (by omega)
  · exact hA g u h0
theorem above_tally {k : ℕ} (c : Dev nD) (sm : SemLoc sig) (n : ℕ) (h : k < lv ((c : Thread nD τ), sm) ()) :
    Above k (tallyAt ((c : Thread nD τ), sm) () n) := fun g u hg => by
  rw [tallyAt_apply] at hg
  by_cases hh : g = ((c : Thread nD τ), sm) ∧ u = ()
  · rw [hh.1, L_tc]; exact ⟨Finset.mem_singleton_self _, h⟩
  · rw [if_neg hh] at hg; exact absurd hg (Nat.lt_irrefl 0)
theorem Above.mono {k k' : ℕ} (hk : k' ≤ k) {O : CellTallies nD τ sig Unit} (h : Above k O) : Above k' O :=
  fun g u hg => ⟨(h g u hg).1, lt_of_le_of_lt hk (h g u hg).2⟩

theorem mayWait_above (c : Dev nD) (sm : SemLoc sig) (k : ℕ) (hk : lv ((c : Thread nD τ), sm) () ≤ k) (O : CellTallies nD τ sig Unit) (hO : Above k O) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => (hO g u hg).1)
    (fun p hp => by rw [Finset.mem_singleton.mp hp]; exact hk)
    (fun g u hg => (hO g u hg).2)

end Cert.Attn
-- ==== Proof.Sends.lean ====
/-
The sends: a departure pays its two duties, and what arrives is what the receiver's gathered slots are to hold.
-/
module

public import proofs.«01_k».proof.Proof.Protocol

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

abbrev 𝒱₀ : Variants := Variants.none

variable (KL VL : Dev nD → S2x512x512.Idx → Elt F .bf16)

/-! ## What arrives -/

theorem srcD_other (n : Dev nD) (i : Fin 2) : srcD n 1 i.val = srcD (srcD n 0 i.val) 0 i.val := by
  fin_cases i <;> rfl

theorem landK_full {c n : Dev nD} {s d : ℕ} {h h'} (hs : s < 3) (hd : d < 2) (hc : srcD n s d = c) :
    (locW klM d h).view.read (Elt F) (KL c) = (fullW kbM s d h').view.read (Elt F) (gath KL n) := funext fun j => by
  rw [read_locW _ _ _ hd, read_fullW _ _ _ _ hs hd]
  show KL c _ = KL (srcD n s d) _
  rw [hc]; rfl
theorem landV_full {c n : Dev nD} {s d : ℕ} {h h'} (hs : s < 3) (hd : d < 2) (hc : srcD n s d = c) :
    (locW vlM d h).view.read (Elt F) (VL c) = (fullW vbM s d h').view.read (Elt F) (gath VL n) := funext fun j => by
  rw [read_locW _ _ _ hd, read_fullW _ _ _ _ hs hd]
  show VL c _ = VL (srcD n s d) _
  rw [hc]; rfl
theorem landK_half {c n : Dev nD} {d lo : ℕ} {h h'} (hd : d < 2) (hl : lo + 256 ≤ 512) (hc : srcD n 1 d = srcD c 0 d) :
    (halfW kbM 0 d lo h).view.read (Elt F) (gath KL c) = (halfW kbM 1 d lo h').view.read (Elt F) (gath KL n) := funext fun j => by
  rw [read_halfW _ _ _ _ _ (by decide) hd hl, read_halfW _ _ _ _ _ (by decide) hd hl]
  show KL (srcD c 0 d) _ = KL (srcD n 1 d) _
  rw [hc]; rfl
theorem landV_half {c n : Dev nD} {d lo : ℕ} {h h'} (hd : d < 2) (hl : lo + 256 ≤ 512) (hc : srcD n 1 d = srcD c 0 d) :
    (halfW vbM 0 d lo h).view.read (Elt F) (gath VL c) = (halfW vbM 1 d lo h').view.read (Elt F) (gath VL n) := funext fun j => by
  rw [read_halfW _ _ _ _ _ (by decide) hd hl, read_halfW _ _ _ _ _ (by decide) hd hl]
  show VL (srcD c 0 d) _ = VL (srcD n 1 d) _
  rw [hc]; rfl

/-! ## A departure -/

/-- What a transfer from `c` to `n` uses up: its departure duty on `c`'s cell `q₁` and its arrival duty on `n`'s cell `q₂`. -/
def tokP (c n : Dev nD) (q₁ q₂ : DmaSem sig) : sProp 𝕄 :=
  iprop((∃ κ, cellInv ER (Rd KL VL) κ (dmaCell c q₁)) ∗ (∃ κ, cellInv ER (Rd KL VL) κ (dmaCell n q₂))
    ∗ dutyTok ER (dmaCell c q₁) 0 false ∗ reached ER (dmaCell c q₁) 0
    ∗ dutyTok ER (dmaCell n q₂) 0 false ∗ reached ER (dmaCell n q₂) 0)

/-- A send of the window `src` of `c` to the window `dst` of `n`: `c` gets the departure's credit and owes the arrival no more. -/
theorem wp_send_tok {s : Shape} (c n n' : Dev nD) (hn : n' = n) {src : Memref sig .tc .vmem s .bf16} {dst : Memref sig .tc .vmem s .bf16}
    {q₁ q₂ : DmaSem sig} {hsc : (dst : Memref sig (Dev.tc n' : Thread nD τ).2.kind .vmem s .bf16).view.ref.isScScratch = false}
    {hsrc : src.view.WordExact} {hdst : dst.view.WordExact}
    {hsem : DmaTarget.Typed .vmem (.dma q₂) (.remote (Dev.tc n' : Thread nD τ) dst (.dma q₁) hsc)}
    {α : Type} {Q : α → sProp 𝕄} {k : PUnit → Prog (TpuEff nD τ sig (Elt F) Λ₀ .tc) α} {q : PosShare TreeShare}
    {fs : Buf (Elt F) (src.view.loc (c : Thread nD τ))} {O : CellTallies nD τ sig Unit} {W : Waits sig Unit} (N : ℕ)
    (g : Buf (Elt F) (dst.view.loc (n : Thread nD τ)))
    (hN : dst.view.amount (.dma q₂) = N) (h₁ : dmaAmt q₁.val = N) (h₂ : dmaAmt q₂.val = N)
    (hp₁ : dmaPay KL VL q₁.val c = (src.view.loc (c : Thread nD τ) ↦[src.view.set]{q} fs))
    (hp₂ : dmaPay KL VL q₂.val n = (dst.view.loc (n : Thread nD τ) ↦[dst.view.set]{fullShare} g))
    (hl : src.view.read (Elt F) fs = dst.view.read (Elt F) g) :
    iprop(tokP KL VL c n q₁ q₂ ∗ (src.view.loc (c : Thread nD τ) ↦[src.view.set]{q} fs) ∗ (∃ fd, dst.view.loc (n : Thread nD τ) ↦[dst.view.set]{fullShare} fd)
        ∗ owes (c : Thread nD τ) (O + tallyAt (dmaCell n q₂) () N) W)
      ⊢ iprop(((cred (tallyAt (dmaCell c q₁) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma q₁) hsc) (.dma q₂) hsrc hdst hsem) k) Q) := by
  subst hn
  unfold tokP
  iintro ⟨⟨⟨%κ₁, HI₁⟩, ⟨%κ₂, HI₂⟩, Ht₁, Hr₁, Ht₂, Hr₂⟩, Hs, ⟨%fd, Hd⟩, HO⟩ Hk
  iapply (Rounds.wp_send_pointsTo 𝒱₀ ER (Rd KL VL) (c : Thread nD τ) none (κ₁ := κ₁) (κ₂ := κ₂)
    (r₁ := 0) (r₂ := 0) (d₁ := false) (d₂ := false) (fd := fd) (fs := fs) (q := q)
    (by rw [duties_dma]; exact Finset.mem_singleton_self _) (by rw [duties_dma]; exact Finset.mem_singleton_self _)
    () () N hN (by rw [amount_dma, h₁]) (by rw [amount_dma, h₂]) O rfl (W := W)
    (by rw [payload_dma, hp₁])
    (by rw [payload_dma, hp₂, landed _ _ g _ hl])) $$ [HI₁ HI₂ Ht₁ Hr₁ Ht₂ Hr₂ Hs Hd HO]
  · isplitl [HI₁]; · iexact HI₁
    isplitl [HI₂]; · iexact HI₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  · iexact Hk

end Cert.Attn
-- ==== Proof.Phase.lean ====
/-
What the phases of the body share: the program at its buffers, what a device still owes after each of its signals and sends,
and the barrier.
-/
module

public import proofs.«01_k».proof.Proof.Sends

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (KL VL : Dev nD → S2x512x512.Idx → Elt F .bf16)

/-- A function of the kernel's arguments at the buffers it is called with. -/
abbrev atBufs {γ : Type 1} (p : (a0 : Memref sig .tc .vmem S2x512x768 .bf16) → a0.IsWhole → (a1 : Memref sig .tc .vmem S768x512 .bf16) → a1.IsWhole → (a2 : Memref sig .tc .vmem S2x512x8x64 .bf16) → a2.IsWhole → (a3 : Memref sig .tc .vmem S2x512x8x64 .bf16) → a3.IsWhole → (a4 : Memref sig .tc .vmem S512x768 .bf16) → a4.IsWhole → (a5 : Memref sig .tc .vmem S2x512x768 .bf16) → a5.IsWhole → (a6 : Memref sig .tc .vmem S2x512x512 .bf16) → a6.IsWhole → (a7 : Memref sig .tc .vmem S2x512x512 .bf16) → a7.IsWhole → (a8 : Memref sig .tc .vmem S3x2x512x512 .bf16) → a8.IsWhole → (a9 : Memref sig .tc .vmem S3x2x512x512 .bf16) → a9.IsWhole → (a10 : Memref sig .tc .vmem S2x512x512 .bf16) → a10.IsWhole → DmaSems sig S4x2 → DmaSems sig S4x2 → DmaSems sig S4x2 → DmaSems sig S4x2 → γ) : γ :=
  p (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8

/-- A buffer of device `c`, whole. -/
abbrev buf (c : Dev nD) (b : Ref sig .tc) (X : b.ty.Contents (Elt F)) : sProp 𝕄 := ((c : Thread nD τ).loc b) ↦{fullShare} X

/-! ## What is owed -/

/-- The cells a device pays, in program order, with the units it pays. -/
def duesL (c : Dev nD) : List (GSem nD τ sig × ℕ) :=
  [(barCell (prv c), 1), (barCell (nxt c), 1),
   (dmaCell (nxt c) (semAt cc0_scratch6 0 0 inb_S4x2_S1x1_0_0), 16384), (dmaCell (prv c) (semAt cc0_scratch6 0 1 inb_S4x2_S1x1_0_1), 16384),
   (dmaCell (prv c) (semAt cc0_scratch6 2 0 inb_S4x2_S1x1_2_0), 16384), (dmaCell (nxt c) (semAt cc0_scratch6 2 1 inb_S4x2_S1x1_2_1), 16384),
   (dmaCell (nxt c) (semAt cc0_scratch8 0 0 inb_S4x2_S1x1_0_0), 16384), (dmaCell (prv c) (semAt cc0_scratch8 0 1 inb_S4x2_S1x1_0_1), 16384),
   (dmaCell (prv c) (semAt cc0_scratch8 2 0 inb_S4x2_S1x1_2_0), 16384), (dmaCell (nxt c) (semAt cc0_scratch8 2 1 inb_S4x2_S1x1_2_1), 16384),
   (dmaCell (nxt c) (semAt cc0_scratch6 1 0 inb_S4x2_S1x1_1_0), 8192), (dmaCell (prv c) (semAt cc0_scratch6 1 1 inb_S4x2_S1x1_1_1), 8192),
   (dmaCell (nxt c) (semAt cc0_scratch8 1 0 inb_S4x2_S1x1_1_0), 8192), (dmaCell (prv c) (semAt cc0_scratch8 1 1 inb_S4x2_S1x1_1_1), 8192),
   (dmaCell (nxt c) (semAt cc0_scratch6 3 0 inb_S4x2_S1x1_3_0), 8192), (dmaCell (prv c) (semAt cc0_scratch6 3 1 inb_S4x2_S1x1_3_1), 8192),
   (dmaCell (nxt c) (semAt cc0_scratch8 3 0 inb_S4x2_S1x1_3_0), 8192), (dmaCell (prv c) (semAt cc0_scratch8 3 1 inb_S4x2_S1x1_3_1), 8192)]

/-- The sum of a list of dues, the first due the last summand. -/
def owedOf : List (GSem nD τ sig × ℕ) → CellTallies nD τ sig Unit
  | [] => 0
  | p :: l => owedOf l + tallyAt p.1 () p.2

/-- What device `c` owes after its first `k` payments. -/
def owed (c : Dev nD) (k : ℕ) : CellTallies nD τ sig Unit := owedOf ((duesL c).drop k)

theorem above_owedOf (k : ℕ) : ∀ l : List (GSem nD τ sig × ℕ), (∀ p ∈ l, p.1.1.2 = .tc ∧ k < lv p.1 ()) → Above k (owedOf l)
  | [], _ => above_zero k
  | p :: l, h => by
    obtain ⟨⟨⟨c, t⟩, sm⟩, n⟩ := p
    have h0 := h _ (List.mem_cons_self ..)
    obtain rfl : t = .tc := h0.1
    exact above_add (above_owedOf k l fun p hp => h p (List.mem_cons_of_mem _ hp)) (above_tally c sm n h0.2)

/-- After the signals a device owes arrivals only, after the whole blocks only the halves'. -/
theorem above_owed (c : Dev nD) : Above 1 (owed c 2) ∧ Above 2 (owed c 10) := by
  constructor
  · exact above_owedOf _ _ (by revert c; decide)
  · exact above_owedOf _ _ (by revert c; decide)

end Cert.Attn
-- ==== Proof.Windows.lean ====
/-
The windows as element sets: a local block is its two batches, a slot's batch its two column halves, the gathered slots the eight
windows the transfers fill.
-/
module

public import proofs.«01_k».proof.Proof.Phase

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

theorem set_locW (M : Memref sig .tc .vmem S2x512x512 .bf16) (d : ℕ) (h) :
    (locW M d h).view.set = (Rect.unit (s := S2x512x512) ![d, 0, 0] S1x512x512.size h).set.map M.view.emb :=
  (View.set_reshape _ _).trans (View.set_slice _ _)
theorem set_fullW (M : Memref sig .tc .vmem S3x2x512x512 .bf16) (s d : ℕ) (h) :
    (fullW M s d h).view.set = (Rect.unit (s := S3x2x512x512) ![s, d, 0, 0] S1x1x512x512.size h).set.map M.view.emb :=
  (View.set_reshape _ _).trans (View.set_slice _ _)
theorem set_halfW (M : Memref sig .tc .vmem S3x2x512x512 .bf16) (s d lo : ℕ) (h) :
    (halfW M s d lo h).view.set = (Rect.unit (s := S3x2x512x512) ![s, d, 0, lo] S1x1x512x256.size h).set.map M.view.emb :=
  (View.set_reshape _ _).trans (View.set_slice _ _)

theorem mem_loc {d : ℕ} {h} {i : S2x512x512.Idx} : i ∈ (Rect.unit (s := S2x512x512) ![d, 0, 0] S1x512x512.size h).set ↔ (i 0).val = d := by
  have h1 : (i 1).val < 512 := (i 1).isLt
  have h2 : (i 2).val < 512 := (i 2).isLt
  rw [Rect.mem_set_unit]
  constructor
  · intro H
    have := H 0
    simp [S1x512x512] at this
    omega
  · intro H a
    fin_cases a <;> simp [S1x512x512] <;> omega
theorem mem_full {s d : ℕ} {h} {i : S3x2x512x512.Idx} :
    i ∈ (Rect.unit (s := S3x2x512x512) ![s, d, 0, 0] S1x1x512x512.size h).set ↔ (i 0).val = s ∧ (i 1).val = d := by
  have h1 : (i 2).val < 512 := (i 2).isLt
  have h2 : (i 3).val < 512 := (i 3).isLt
  rw [Rect.mem_set_unit]
  constructor
  · intro H
    have H0 := H 0
    have H1 := H 1
    simp [S1x1x512x512] at H0 H1
    omega
  · intro H a
    fin_cases a <;> simp [S1x1x512x512] <;> omega
theorem mem_half {s d lo : ℕ} {h} {i : S3x2x512x512.Idx} :
    i ∈ (Rect.unit (s := S3x2x512x512) ![s, d, 0, lo] S1x1x512x256.size h).set ↔ (i 0).val = s ∧ (i 1).val = d ∧ lo ≤ (i 3).val ∧ (i 3).val < lo + 256 := by
  have h1 : (i 2).val < 512 := (i 2).isLt
  rw [Rect.mem_set_unit]
  constructor
  · intro H
    have H0 := H 0
    have H1 := H 1
    have H3 := H 3
    simp [S1x1x512x256] at H0 H1 H3
    omega
  · intro H a
    fin_cases a <;> simp [S1x1x512x256] <;> omega

/-- Pieces of a view's elements, one for each value of a key. -/
theorem pieces {c : Dev nD} {sp : Space} {s : Shape} {e : EltTy} {n : ℕ} (v : View sig .tc sp s e) (key : s.Idx → Fin n) (q : PosShare TreeShare)
    (f : Buf (Elt F) (v.loc (c : Thread nD τ))) :
    (v.loc (c : Thread nD τ) ↦[v.set]{q} f : sProp 𝕄) = bigSep Finset.univ fun t : Fin n => (v.loc (c : Thread nD τ) ↦[(Finset.univ.filter fun i => key i = t).map v.emb]{q} f) := by
  classical
  rw [← pointsTo_biUnion]
  · congr 1
    ext x
    simp only [View.set, Finset.mem_map, Finset.mem_univ, true_and, Finset.mem_biUnion, Finset.mem_filter]
    exact ⟨fun ⟨i, hi⟩ => ⟨key i, i, rfl, hi⟩, fun ⟨_, i, _, hi⟩ => ⟨i, hi⟩⟩
  · intro t _ t' _ ht
    refine (Finset.disjoint_map _).mpr (Finset.disjoint_left.mpr fun i hi hi' => ht ?_)
    rw [← (Finset.mem_filter.mp hi).2, (Finset.mem_filter.mp hi').2]

theorem bigSep_two (Φ : Fin 2 → sProp 𝕄) : bigSep Finset.univ Φ = iprop(Φ 0 ∗ Φ 1) := bigSep_univ_eq_bigSepL [0, 1] (by decide) (by decide) Φ
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The batch of an element. -/
def batchOf (i : S2x512x512.Idx) : Fin 2 := i 0

/-- A local block is its two batches. -/
theorem split_loc (M : Memref sig .tc .vmem S2x512x512 .bf16) (c : Dev nD) (q : PosShare TreeShare) (f : Buf (Elt F) (M.view.loc (c : Thread nD τ))) :
    (held M c q f : sProp 𝕄) = iprop(((locW M 0 inb_S2x512x512_S1x512x512_0_0_0).view.loc (c : Thread nD τ) ↦[(locW M 0 inb_S2x512x512_S1x512x512_0_0_0).view.set]{q} f)
      ∗ ((locW M 1 inb_S2x512x512_S1x512x512_1_0_0).view.loc (c : Thread nD τ) ↦[(locW M 1 inb_S2x512x512_S1x512x512_1_0_0).view.set]{q} f)) := by
  have hs (d : Fin 2) (h) : (Finset.univ.filter fun i : S2x512x512.Idx => batchOf i = d) = (Rect.unit (s := S2x512x512) ![d.val, 0, 0] S1x512x512.size h).set := by
    ext i; rw [mem_loc, Finset.mem_filter, ← Fin.val_inj]; simp [batchOf]
  unfold held
  rw [pieces M.view batchOf q f, bigSep_two, set_locW, set_locW, hs 0 inb_S2x512x512_S1x512x512_0_0_0, hs 1 inb_S2x512x512_S1x512x512_1_0_0]
  rfl

/-- The window of the gathered slots an element lies in. -/
def winOf (i : S3x2x512x512.Idx) : Fin 8 :=
  ⟨(if (i 0).val = 1 then (if (i 3).val < 256 then 2 else 6) else if (i 0).val = 0 then 0 else 4) + (i 1).val, by
    have : (i 1).val < 2 := (i 1).isLt
    split_ifs <;> omega⟩

theorem set_win (t : Fin 8) (S : Finset S3x2x512x512.Idx) (a b lo hi : ℕ) (ha : a < 3) (hb : b < 2)
    (hS : ∀ i, i ∈ S ↔ (i 0).val = a ∧ (i 1).val = b ∧ lo ≤ (i 3).val ∧ (i 3).val < hi)
    (ht : (a = 1 ∧ ((lo = 0 ∧ hi = 256 ∧ t.val = 2 + b) ∨ (lo = 256 ∧ hi = 512 ∧ t.val = 6 + b))) ∨ (lo = 0 ∧ hi = 512 ∧ a = 0 ∧ t.val = b) ∨ (lo = 0 ∧ hi = 512 ∧ a = 2 ∧ t.val = 4 + b)) :
    (Finset.univ.filter fun i => winOf i = t) = S := by
  ext i
  have h0 : (i 0).val < 3 := (i 0).isLt
  have h1 : (i 1).val < 2 := (i 1).isLt
  have h3 : (i 3).val < 512 := (i 3).isLt
  rw [hS, Finset.mem_filter, ← Fin.val_inj]
  simp only [Finset.mem_univ, true_and, winOf]
  split_ifs <;> omega

/-- The gathered slots are the eight windows. -/
theorem split_win (M : Memref sig .tc .vmem S3x2x512x512 .bf16) (c : Dev nD) (f : Buf (Elt F) (M.view.loc (c : Thread nD τ))) :
    (held M c fullShare f : sProp 𝕄) = iprop(recvP M c f 0 ∗ recvP M c f 1 ∗ recvP M c f 2 ∗ recvP M c f 3 ∗ recvP M c f 4 ∗ recvP M c f 5 ∗ recvP M c f 6 ∗ recvP M c f 7) := by
  have hf (s d : ℕ) (h) (i : S3x2x512x512.Idx) : i ∈ (Rect.unit (s := S3x2x512x512) ![s, d, 0, 0] S1x1x512x512.size h).set ↔ (i 0).val = s ∧ (i 1).val = d ∧ 0 ≤ (i 3).val ∧ (i 3).val < 512 := by
    have h3 : (i 3).val < 512 := (i 3).isLt
    rw [mem_full]; omega
  unfold held
  rw [pieces M.view winOf fullShare f, bigSep_eight,
    set_win 0 _ 0 0 0 512 (by decide) (by decide) (hf 0 0 inb_S3x2x512x512_S1x1x512x512_0_0_0_0) (by decide),
    set_win 1 _ 0 1 0 512 (by decide) (by decide) (hf 0 1 inb_S3x2x512x512_S1x1x512x512_0_1_0_0) (by decide),
    set_win 4 _ 2 0 0 512 (by decide) (by decide) (hf 2 0 inb_S3x2x512x512_S1x1x512x512_2_0_0_0) (by decide),
    set_win 5 _ 2 1 0 512 (by decide) (by decide) (hf 2 1 inb_S3x2x512x512_S1x1x512x512_2_1_0_0) (by decide),
    set_win 2 _ 1 0 0 256 (by decide) (by decide) (fun i => mem_half (h := inb_S3x2x512x512_S1x1x512x256_1_0_0_0)) (by decide),
    set_win 3 _ 1 1 0 256 (by decide) (by decide) (fun i => mem_half (h := inb_S3x2x512x512_S1x1x512x256_1_1_0_0)) (by decide),
    set_win 6 _ 1 0 256 512 (by decide) (by decide) (fun i => mem_half (h := inb_S3x2x512x512_S1x1x512x256_1_0_0_256)) (by decide),
    set_win 7 _ 1 1 256 512 (by decide) (by decide) (fun i => mem_half (h := inb_S3x2x512x512_S1x1x512x256_1_1_0_256)) (by decide)]
  unfold recvP
  rw [set_fullW, set_fullW, set_fullW, set_fullW, set_halfW, set_halfW, set_halfW, set_halfW]
  rfl

/-- A batch of slot 0 is its two column halves. -/
theorem split_half (M : Memref sig .tc .vmem S3x2x512x512 .bf16) (c : Dev nD) (d : ℕ) (hd : d < 2) (h h₀ h₁) (q : PosShare TreeShare) (f : Buf (Elt F) (M.view.loc (c : Thread nD τ))) :
    ((fullW M 0 d h).view.loc (c : Thread nD τ) ↦[(fullW M 0 d h).view.set]{q} f : sProp 𝕄) ⊣⊢
      iprop(((halfW M 0 d 0 h₀).view.loc (c : Thread nD τ) ↦[(halfW M 0 d 0 h₀).view.set]{q} f)
        ∗ ((halfW M 0 d 256 h₁).view.loc (c : Thread nD τ) ↦[(halfW M 0 d 256 h₁).view.set]{q} f)) := by
  have hu : (fullW M 0 d h).view.set = (halfW M 0 d 0 h₀).view.set ∪ (halfW M 0 d 256 h₁).view.set := by
    rw [set_fullW, set_halfW, set_halfW, ← Finset.map_union]
    congr 1; ext i
    have h3 : (i 3).val < 512 := (i 3).isLt
    rw [Finset.mem_union, mem_full, mem_half, mem_half]; omega
  have hdj : Disjoint (halfW M 0 d 0 h₀).view.set (halfW M 0 d 256 h₁).view.set := by
    rw [set_halfW, set_halfW]
    refine (Finset.disjoint_map _).mpr (Finset.disjoint_left.mpr fun i hi hi' => ?_)
    rw [mem_half] at hi hi'; omega
  rw [hu]
  exact pointsTo_union hdj

end Cert.Attn
-- ==== Proof.Start.lean ====
/-
The first phase: the barrier, the copies of the device's own blocks, their departures, and the queries.
-/
module

public import proofs.«01_k».proof.Proof.Windows

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (KL VL : Dev nD → S2x512x512.Idx → Elt F .bf16)

/-- What a signal of the barrier of `n` that pays its duty `b` uses up. -/
def sigP (n : Dev nD) (b : Bool) : sProp 𝕄 :=
  iprop((∃ κ, cellInv ER (Rd KL VL) κ (barCell n)) ∗ dutyTok ER (barCell n) 0 b ∗ reached ER (barCell n) 0)

/-- A device's own barrier, before its wait. -/
def barW (c : Dev nD) : sProp 𝕄 :=
  iprop((∃ κ, cellInv ER (Rd KL VL) κ (barCell c)) ∗ cred (tallyAt (barCell c) () 2) ∗ atPos ER (barCell c) 0 ∅ 0)

theorem wp_signal_tok (c n n' : Dev nD) (hn : n' = n) (b : Bool) {α : Type} {Q : α → sProp 𝕄} {k : PUnit → Prog (TpuEff nD τ sig (Elt F) Λ₀ .tc) α}
    {O : CellTallies nD τ sig Unit} {W : Waits sig Unit} (P : sProp 𝕄) (hP : P = barPay n b) :
    iprop(sigP KL VL n b ∗ P ∗ owes (c : Thread nD τ) (O + tallyAt (barCell n) () 1) W)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) barS (1#32).toNat) k) Q) := by
  subst hn hP
  unfold sigP
  iintro ⟨⟨⟨%κ, HI⟩, Ht, Hr⟩, HP, HO⟩ Hk
  iapply (Rounds.wp_signal 𝒱₀ ER (Rd KL VL) (c : Thread nD τ) none (dst := (n' : Thread nD τ)) (κ := κ)
      (d := b) (by rw [duties_bar]; exact Finset.mem_univ _) ((amount_bar KL VL n' b).trans (by decide)) () O rfl)
    $$ [HI Ht Hr HP HO]
  · isplitl [HI]; · iexact HI
    isplitl [HO]; · iexact HO
    isplitl [Ht]; · iexact Ht
    isplitl [HP]; · rw [payload_bar]; iexact HP
    iexact Hr
  · iexact Hk

theorem barPay_prv (c : Dev nD) : (barP c 0 2 5 6 : sProp 𝕄) = barPay (prv c) true := by unfold barPay; rw [nxt_prv]
theorem barPay_nxt (c : Dev nD) : (barP c 1 3 4 7 : sProp 𝕄) = barPay (nxt c) false := by unfold barPay; rw [prv_nxt]

theorem write_kl (f w : (cc0_scratch0 : Ref sig .tc).ty.Contents (Elt F)) :
    (klM.access (Rect.unit (s := S2x512x512) ![0, 0, 0] S2x512x512.size inb_S2x512x512_S2x512x512_0_0_0) : View sig .tc _ _ _).write (Elt F) f w Finset.univ = w :=
  Memref.write_access_unit_zero_univ (Elt F) cc0_scratch0 (funext fun a => by fin_cases a <;> rfl) _ f w
theorem write_vl (f w : (cc0_scratch1 : Ref sig .tc).ty.Contents (Elt F)) :
    (vlM.access (Rect.unit (s := S2x512x512) ![0, 0, 0] S2x512x512.size inb_S2x512x512_S2x512x512_0_0_0) : View sig .tc _ _ _).write (Elt F) f w Finset.univ = w :=
  Memref.write_access_unit_zero_univ (Elt F) cc0_scratch1 (funext fun a => by fin_cases a <;> rfl) _ f w
theorem read_kin (f : (cc0_stg2_0 : Ref sig .tc).ty.Contents (Elt F)) :
    (Memref.whole cc0_stg2_0 : Memref sig .tc .vmem S2x512x8x64 .bf16).view.readAt (Elt F) (Rect.unit (s := S2x512x8x64) ![0, 0, 0, 0] S2x512x8x64.size inb_S2x512x8x64_S2x512x8x64_0_0_0_0).toLoadRect f = f :=
  Memref.readAt_unit_zero (Elt F) cc0_stg2_0 (funext fun a => by fin_cases a <;> rfl) _ f
theorem read_vin (f : (cc0_stg3_0 : Ref sig .tc).ty.Contents (Elt F)) :
    (Memref.whole cc0_stg3_0 : Memref sig .tc .vmem S2x512x8x64 .bf16).view.readAt (Elt F) (Rect.unit (s := S2x512x8x64) ![0, 0, 0, 0] S2x512x8x64.size inb_S2x512x8x64_S2x512x8x64_0_0_0_0).toLoadRect f = f :=
  Memref.readAt_unit_zero (Elt F) cc0_stg3_0 (funext fun a => by fin_cases a <;> rfl) _ f

/-- The barrier and the local copy of `K`: the neighbours' windows come, the device's own go. -/
theorem part1_run (c : Dev nD) (fk : S2x512x8x64.Idx → Elt F .bf16) (W : Waits sig Unit) (Kt : (Σ' (d0 : Dev nD) (v5 : BitVec 32), BitVec 32) → sProp 𝕄) :
    iprop((levAts L lv ∗ sigP KL VL (prv c) true ∗ sigP KL VL (nxt c) false ∗ barW KL VL c ∗ barP c 0 2 5 6 ∗ barP c 1 3 4 7
        ∗ buf c cc0_stg2_0 fk ∗ (∃ f, buf c cc0_scratch0 f) ∗ owes (c : Thread nD τ) (owed c 0) W)
      ∗ ∀ v5 v7, (barP (nxt c) 0 2 5 6 ∗ barP (prv c) 1 3 4 7 ∗ atPos ER (barCell c) (0 + 1) ∅ 0
          ∗ buf c cc0_stg2_0 fk ∗ buf c cc0_scratch0 (k0_pay1 fk) ∗ owes (c : Thread nD τ) (owed c 2) (insert (SemLoc.reg barS, ()) W)) -∗ Kt ⟨c, v5, v7⟩)
      ⊢ wp frame (wpE (defs₀ (F := F)) 𝒱₀ (c : Thread nD τ) none) Set.univ (atBufs (k0_part1 (F := F))) Kt := by
  unfold atBufs
  rw [k0_part1_eq_skeleton]; unfold k0_part1_skel
  simp only [semSignalWord, semWaitWord, Prog.lift, Prog.bind_op, Prog.bind_ret, Prog.pure_eq_ret, wp_deviceId]
  iintro ⟨⟨#Hlev, Hs1, Hs2, Hw, Hp1, Hp2, HK, ⟨%f0, Hkl⟩, HO⟩, Hk⟩
  iapply (wp_signal_tok KL VL c (prv c) _ (dev1_eq c) true (O := owed c 1) (W := W) _ (barPay_prv c)) $$ [Hs1 Hp1 HO]
  · isplitl [Hs1]; · iexact Hs1
    isplitl [Hp1]; · iexact Hp1
    iexact HO
  iintro HO
  iapply (wp_signal_tok KL VL c (nxt c) _ (dev2_eq c) false (O := owed c 2) (W := W) _ (barPay_nxt c)) $$ [Hs2 Hp2 HO]
  · isplitl [Hs2]; · iexact Hs2
    isplitl [Hp2]; · iexact Hp2
    iexact HO
  iintro HO
  iapply (wp_load 𝒱₀ (c : Thread nD τ) none Set.univ (m := Memref.whole cc0_stg2_0) (Finset.subset_univ _)) $$ HK; iintro HK
  rw [read_kin]
  iapply (wp_load 𝒱₀ (c : Thread nD τ) none Set.univ (m := klM) (Finset.subset_univ _)) $$ Hkl; iintro Hkl
  iapply (wp_store 𝒱₀ (c : Thread nD τ) none Set.univ (m := klM) (r := Rect.unit (s := S2x512x512) ![0, 0, 0] S2x512x512.size inb_S2x512x512_S2x512x512_0_0_0) (Mk := Finset.univ) (Finset.subset_univ _)) $$ Hkl; iintro Hkl
  rw [write_kl]
  unfold barW
  icases Hw with ⟨⟨%κ, #HI⟩, Hc, Hat⟩
  iapply (Rounds.wp_wait_rest_token 𝒱₀ ER (Rd KL VL) (c : Thread nD τ) none (κ := κ)
      (wpE_semWait_eq 𝒱₀ (c : Thread nD τ) none Set.univ) (Set.mem_univ _) () (O := owed c 2) (W := W) (R := 0) (m := 0) (T := ∅)
      (by rw [expect_bar]; decide)) $$ [Hc HO Hat]
  · isplitr; · iexact HI
    isplitl [Hc]; · iexact Hc
    isplitl [HO]; · iexact HO
    isplitr; · iapply (mayWait_above c (.reg barS) 1 (le_refl _) (owed c 2) (above_owed c).1); iexact Hlev
    iexact Hat
  iintro ⟨HO, Hat, -, Hpay⟩
  ihave Hp := (Entails.of_eq (rest_bar KL VL c)) $$ Hpay
  unfold barPay
  icases Hp with ⟨Hp1, Hp2⟩
  rw [wp_ret]; imodintro
  iapply Hk
  isplitl [Hp2]; · iexact Hp2
  isplitl [Hp1]; · iexact Hp1
  isplitl [Hat]; · iexact Hat
  isplitl [HK]; · iexact HK
  isplitl [Hkl]; · iexact Hkl
  iexact HO

/-! ## The departures of the whole blocks -/

/-- Three of the departures of `K`. -/
theorem part2_run (c : Dev nD) (v5 : BitVec 32) (W : Waits sig Unit) (Kt : PUnit → sProp 𝕄) :
    iprop(((tokP KL VL c (nxt c) (semAt cc0_scratch5 0 0 inb_S4x2_S1x1_0_0) (semAt cc0_scratch6 0 0 inb_S4x2_S1x1_0_0) ∗ tokP KL VL c (prv c) (semAt cc0_scratch5 0 1 inb_S4x2_S1x1_0_1) (semAt cc0_scratch6 0 1 inb_S4x2_S1x1_0_1) ∗ tokP KL VL c (prv c) (semAt cc0_scratch5 2 0 inb_S4x2_S1x1_2_0) (semAt cc0_scratch6 2 0 inb_S4x2_S1x1_2_0))
        ∗ (sendP klM kbM c (KL c) (gath KL c) 0 ∗ sendP klM kbM c (KL c) (gath KL c) 1 ∗ sendP klM kbM c (KL c) (gath KL c) 4)
        ∗ ((∃ f, recvP kbM (nxt c) f 0) ∗ (∃ f, recvP kbM (prv c) f 1) ∗ (∃ f, recvP kbM (prv c) f 4))
        ∗ owes (c : Thread nD τ) (owed c 2) W)
      ∗ (((cred (tallyAt (dmaCell c (semAt cc0_scratch5 0 0 inb_S4x2_S1x1_0_0)) () 16384) ∗ cred (tallyAt (dmaCell c (semAt cc0_scratch5 0 1 inb_S4x2_S1x1_0_1)) () 16384) ∗ cred (tallyAt (dmaCell c (semAt cc0_scratch5 2 0 inb_S4x2_S1x1_2_0)) () 16384)) ∗ owes (c : Thread nD τ) (owed c 5) W) -∗ Kt ⟨⟩))
      ⊢ wp frame (wpE (defs₀ (F := F)) 𝒱₀ (c : Thread nD τ) none) Set.univ (atBufs (k0_part2 (F := F)) c v5) Kt := by
  unfold atBufs
  rw [k0_part2_eq_skeleton]; unfold k0_part2_skel
  simp only [Prog.lift, Prog.bind_op, Prog.bind_ret, Prog.pure_eq_ret, sendP, recvP]
  iintro ⟨⟨⟨HtK0, HtK1, HtK4⟩, ⟨HsK0, HsK1, HsK4⟩, ⟨HdK0, HdK1, HdK4⟩, HO⟩, Hk⟩
  iapply (wp_send_tok KL VL c (nxt c) _ (Fin.ext (k0_dev3_eq c)) (q := qHop) (fs := KL c) (O := owed c 3) (W := W) 16384 (gath KL (nxt c))
      rfl rfl rfl rfl rfl (landK_full KL (s := 0) (d := 0) (by decide) (by decide) (prv_nxt c))) $$ [HtK0 HsK0 HdK0 HO]
  · isplitl [HtK0]; · iexact HtK0
    isplitl [HsK0]; · iexact HsK0
    isplitl [HdK0]; · iexact HdK0
    iexact HO
  iintro ⟨HcK0, HO⟩
  iapply (wp_send_tok KL VL c (prv c) _ (Fin.ext (k0_dev4_eq c)) (q := qHop) (fs := KL c) (O := owed c 4) (W := W) 16384 (gath KL (prv c))
      rfl rfl rfl rfl rfl (landK_full KL (s := 0) (d := 1) (by decide) (by decide) (nxt_prv c))) $$ [HtK1 HsK1 HdK1 HO]
  · isplitl [HtK1]; · iexact HtK1
    isplitl [HsK1]; · iexact HsK1
    isplitl [HdK1]; · iexact HdK1
    iexact HO
  iintro ⟨HcK1, HO⟩
  iapply (wp_send_tok KL VL c (prv c) _ (Fin.ext (k0_dev5_eq c)) (q := qDir) (fs := KL c) (O := owed c 5) (W := W) 16384 (gath KL (prv c))
      rfl rfl rfl rfl rfl (landK_full KL (s := 2) (d := 0) (by decide) (by decide) (nxt_prv c))) $$ [HtK4 HsK4 HdK4 HO]
  · isplitl [HtK4]; · iexact HtK4
    isplitl [HsK4]; · iexact HsK4
    isplitl [HdK4]; · iexact HdK4
    iexact HO
  iintro ⟨HcK4, HO⟩
  rw [wp_ret]; imodintro
  iapply Hk
  isplitl [HcK0 HcK1 HcK4]
  · isplitl [HcK0]; · iexact HcK0
    isplitl [HcK1]; · iexact HcK1
    iexact HcK4
  iexact HO

/-- A local block, split for its departures: a half of its share stays for the loads, the other goes with the two copies of each batch. -/
theorem split_LB (Ml : Memref sig .tc .vmem S2x512x512 .bf16) (M : Memref sig .tc .vmem S3x2x512x512 .bf16) (c : Dev nD)
    (fl : Buf (Elt F) (Ml.view.loc (c : Thread nD τ))) (f : Buf (Elt F) (M.view.loc (c : Thread nD τ))) :
    (held Ml c fullShare fl : sProp 𝕄) ⊢ iprop(held Ml c fullShare.left fl ∗ sendP Ml M c fl f 0 ∗ sendP Ml M c fl f 1 ∗ sendP Ml M c fl f 4 ∗ sendP Ml M c fl f 5) := by
  iintro H
  ihave H := (pointsTo_share (PosShare.mem_left_op_right fullShare)).1 $$ H
  icases H with ⟨Hl, Hr⟩
  simp only [sendP]
  ihave H := (pointsTo_share (PosShare.mem_left_op_right fullShare.right)).1 $$ Hr
  icases H with ⟨Ha, Hb⟩
  ihave Ha := (Entails.of_eq (split_loc Ml c qHop fl)) $$ Ha
  icases Ha with ⟨Ha0, Ha1⟩
  ihave Hb := (Entails.of_eq (split_loc Ml c qDir fl)) $$ Hb
  icases Hb with ⟨Hb0, Hb1⟩
  isplitl [Hl]; · iexact Hl
  isplitl [Ha0]; · iexact Ha0
  isplitl [Ha1]; · iexact Ha1
  isplitl [Hb0]; · iexact Hb0
  iexact Hb1

theorem held_kl (c : Dev nD) (f) : (held klM c fullShare f : sProp 𝕄) = buf c cc0_scratch0 f := by
  unfold held buf; rw [show (klM : Memref sig .tc .vmem S2x512x512 .bf16).view.set = Finset.univ from View.set_whole _]
theorem held_vl (c : Dev nD) (f) : (held vlM c fullShare f : sProp 𝕄) = buf c cc0_scratch1 f := by
  unfold held buf; rw [show (vlM : Memref sig .tc .vmem S2x512x512 .bf16).view.set = Finset.univ from View.set_whole _]

theorem split_kl (c : Dev nD) : (buf c cc0_scratch0 (KL c) : sProp 𝕄) ⊢ iprop(held klM c fullShare.left (KL c)
    ∗ sendP klM kbM c (KL c) (gath KL c) 0 ∗ sendP klM kbM c (KL c) (gath KL c) 1 ∗ sendP klM kbM c (KL c) (gath KL c) 4 ∗ sendP klM kbM c (KL c) (gath KL c) 5) := by
  rw [← held_kl]; exact split_LB klM kbM c _ _
theorem split_vl (c : Dev nD) : (buf c cc0_scratch1 (VL c) : sProp 𝕄) ⊢ iprop(held vlM c fullShare.left (VL c)
    ∗ sendP vlM vbM c (VL c) (gath VL c) 0 ∗ sendP vlM vbM c (VL c) (gath VL c) 1 ∗ sendP vlM vbM c (VL c) (gath VL c) 4 ∗ sendP vlM vbM c (VL c) (gath VL c) 5) := by
  rw [← held_vl]; exact split_LB vlM vbM c _ _

/-- The last departure of `K`, the local copy of `V`, and its first departure; a half of the copy's share stays for the loads. -/
theorem part3_run (c : Dev nD) (fv : S2x512x8x64.Idx → Elt F .bf16) (hV : VL c = k0_pay2 fv) (v7 : BitVec 32) (W : Waits sig Unit) (Kt : PUnit → sProp 𝕄) :
    iprop(((tokP KL VL c (nxt c) (semAt cc0_scratch5 2 1 inb_S4x2_S1x1_2_1) (semAt cc0_scratch6 2 1 inb_S4x2_S1x1_2_1) ∗ tokP KL VL c (nxt c) (semAt cc0_scratch7 0 0 inb_S4x2_S1x1_0_0) (semAt cc0_scratch8 0 0 inb_S4x2_S1x1_0_0)) ∗ sendP klM kbM c (KL c) (gath KL c) 5 ∗ ((∃ f, recvP kbM (nxt c) f 5) ∗ (∃ f, recvP vbM (nxt c) f 0))
        ∗ buf c cc0_stg3_0 fv ∗ (∃ f, buf c cc0_scratch1 f) ∗ owes (c : Thread nD τ) (owed c 5) W)
      ∗ (((cred (tallyAt (dmaCell c (semAt cc0_scratch5 2 1 inb_S4x2_S1x1_2_1)) () 16384) ∗ cred (tallyAt (dmaCell c (semAt cc0_scratch7 0 0 inb_S4x2_S1x1_0_0)) () 16384))
          ∗ held vlM c fullShare.left (VL c) ∗ (sendP vlM vbM c (VL c) (gath VL c) 1 ∗ sendP vlM vbM c (VL c) (gath VL c) 4 ∗ sendP vlM vbM c (VL c) (gath VL c) 5)
          ∗ buf c cc0_stg3_0 fv ∗ owes (c : Thread nD τ) (owed c 7) W) -∗ Kt ⟨⟩))
      ⊢ wp frame (wpE (defs₀ (F := F)) 𝒱₀ (c : Thread nD τ) none) Set.univ (atBufs (k0_part3 (F := F)) c v7) Kt := by
  unfold atBufs
  rw [k0_part3_eq_skeleton]; unfold k0_part3_skel
  simp only [Prog.lift, Prog.bind_op, Prog.bind_ret, Prog.pure_eq_ret, sendP, recvP]
  iintro ⟨⟨⟨HtK5, HtV0⟩, HsK5, ⟨HdK5, HdV0⟩, HV, ⟨%f0, Hvl⟩, HO⟩, Hk⟩
  iapply (wp_send_tok KL VL c (nxt c) _ (Fin.ext (k0_dev6_eq c)) (q := qDir) (fs := KL c) (O := owed c 6) (W := W) 16384 (gath KL (nxt c))
      rfl rfl rfl rfl rfl (landK_full KL (s := 2) (d := 1) (by decide) (by decide) (prv_nxt c))) $$ [HtK5 HsK5 HdK5 HO]
  · isplitl [HtK5]; · iexact HtK5
    isplitl [HsK5]; · iexact HsK5
    isplitl [HdK5]; · iexact HdK5
    iexact HO
  iintro ⟨HcK5, HO⟩
  iapply (wp_load 𝒱₀ (c : Thread nD τ) none Set.univ (m := Memref.whole cc0_stg3_0) (Finset.subset_univ _)) $$ HV; iintro HV
  rw [read_vin]
  iapply (wp_load 𝒱₀ (c : Thread nD τ) none Set.univ (m := vlM) (Finset.subset_univ _)) $$ Hvl; iintro Hvl
  iapply (wp_store 𝒱₀ (c : Thread nD τ) none Set.univ (m := vlM) (r := Rect.unit (s := S2x512x512) ![0, 0, 0] S2x512x512.size inb_S2x512x512_S2x512x512_0_0_0) (Mk := Finset.univ) (Finset.subset_univ _)) $$ Hvl; iintro Hvl
  rw [write_vl, ← hV]
  ihave Hvl := (split_vl VL c) $$ Hvl
  simp only [sendP]
  icases Hvl with ⟨Hl, HsV0, HsV1, HsV4, HsV5⟩
  iapply (wp_send_tok KL VL c (nxt c) _ (Fin.ext (k0_dev7_eq c)) (q := qHop) (fs := VL c) (O := owed c 7) (W := W) 16384 (gath VL (nxt c))
      rfl rfl rfl rfl rfl (landV_full VL (s := 0) (d := 0) (by decide) (by decide) (prv_nxt c))) $$ [HtV0 HsV0 HdV0 HO]
  · isplitl [HtV0]; · iexact HtV0
    isplitl [HsV0]; · iexact HsV0
    isplitl [HdV0]; · iexact HdV0
    iexact HO
  iintro ⟨HcV0, HO⟩
  rw [wp_ret]; imodintro
  iapply Hk
  isplitl [HcK5 HcV0]
  · isplitl [HcK5]; · iexact HcK5
    iexact HcV0
  isplitl [Hl]; · iexact Hl
  isplitl [HsV1 HsV4 HsV5]
  · isplitl [HsV1]; · iexact HsV1
    isplitl [HsV4]; · iexact HsV4
    iexact HsV5
  isplitl [HV]; · iexact HV
  iexact HO

/-- Two more departures of `V`. -/
theorem part4_run (c : Dev nD) (v5 v7 : BitVec 32) (W : Waits sig Unit) (Kt : PUnit → sProp 𝕄) :
    iprop(((tokP KL VL c (prv c) (semAt cc0_scratch7 0 1 inb_S4x2_S1x1_0_1) (semAt cc0_scratch8 0 1 inb_S4x2_S1x1_0_1) ∗ tokP KL VL c (prv c) (semAt cc0_scratch7 2 0 inb_S4x2_S1x1_2_0) (semAt cc0_scratch8 2 0 inb_S4x2_S1x1_2_0))
        ∗ (sendP vlM vbM c (VL c) (gath VL c) 1 ∗ sendP vlM vbM c (VL c) (gath VL c) 4)
        ∗ ((∃ f, recvP vbM (prv c) f 1) ∗ (∃ f, recvP vbM (prv c) f 4))
        ∗ owes (c : Thread nD τ) (owed c 7) W)
      ∗ (((cred (tallyAt (dmaCell c (semAt cc0_scratch7 0 1 inb_S4x2_S1x1_0_1)) () 16384) ∗ cred (tallyAt (dmaCell c (semAt cc0_scratch7 2 0 inb_S4x2_S1x1_2_0)) () 16384)) ∗ owes (c : Thread nD τ) (owed c 9) W) -∗ Kt ⟨⟩))
      ⊢ wp frame (wpE (defs₀ (F := F)) 𝒱₀ (c : Thread nD τ) none) Set.univ (atBufs (k0_part4 (F := F)) c v5 v7) Kt := by
  unfold atBufs
  rw [k0_part4_eq_skeleton]; unfold k0_part4_skel
  simp only [Prog.lift, Prog.bind_op, Prog.bind_ret, Prog.pure_eq_ret, sendP, recvP]
  iintro ⟨⟨⟨HtV1, HtV4⟩, ⟨HsV1, HsV4⟩, ⟨HdV1, HdV4⟩, HO⟩, Hk⟩
  iapply (wp_send_tok KL VL c (prv c) _ (Fin.ext (k0_dev8_eq c)) (q := qHop) (fs := VL c) (O := owed c 8) (W := W) 16384 (gath VL (prv c))
      rfl rfl rfl rfl rfl (landV_full VL (s := 0) (d := 1) (by decide) (by decide) (nxt_prv c))) $$ [HtV1 HsV1 HdV1 HO]
  · isplitl [HtV1]; · iexact HtV1
    isplitl [HsV1]; · iexact HsV1
    isplitl [HdV1]; · iexact HdV1
    iexact HO
  iintro ⟨HcV1, HO⟩
  iapply (wp_send_tok KL VL c (prv c) _ (Fin.ext (k0_dev9_eq c)) (q := qDir) (fs := VL c) (O := owed c 9) (W := W) 16384 (gath VL (prv c))
      rfl rfl rfl rfl rfl (landV_full VL (s := 2) (d := 0) (by decide) (by decide) (nxt_prv c))) $$ [HtV4 HsV4 HdV4 HO]
  · isplitl [HtV4]; · iexact HtV4
    isplitl [HsV4]; · iexact HsV4
    isplitl [HdV4]; · iexact HdV4
    iexact HO
  iintro ⟨HcV4, HO⟩
  rw [wp_ret]; imodintro
  iapply Hk
  isplitl [HcV1 HcV4]
  · isplitl [HcV1]; · iexact HcV1
    iexact HcV4
  iexact HO

end Cert.Attn
-- ==== Proof.Halves.lean ====
/-
The second phase: the departures of the halves of what came in slot 0.
-/
module

public import proofs.«01_k».proof.Proof.Start

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (KL VL : Dev nD → S2x512x512.Idx → Elt F .bf16)

/-- Three departures of halves. -/
theorem part19_run (c : Dev nD) (v5 v7 : BitVec 32) (W : Waits sig Unit) (Kt : PUnit → sProp 𝕄) :
    iprop(((tokP KL VL c (nxt c) (semAt cc0_scratch5 1 0 inb_S4x2_S1x1_1_0) (semAt cc0_scratch6 1 0 inb_S4x2_S1x1_1_0) ∗ tokP KL VL c (prv c) (semAt cc0_scratch5 1 1 inb_S4x2_S1x1_1_1) (semAt cc0_scratch6 1 1 inb_S4x2_S1x1_1_1) ∗ tokP KL VL c (nxt c) (semAt cc0_scratch7 1 0 inb_S4x2_S1x1_1_0) (semAt cc0_scratch8 1 0 inb_S4x2_S1x1_1_0))
        ∗ (sendP klM kbM c (KL c) (gath KL c) 2 ∗ sendP klM kbM c (KL c) (gath KL c) 3 ∗ sendP vlM vbM c (VL c) (gath VL c) 2)
        ∗ ((∃ f, recvP kbM (nxt c) f 2) ∗ (∃ f, recvP kbM (prv c) f 3) ∗ (∃ f, recvP vbM (nxt c) f 2))
        ∗ owes (c : Thread nD τ) (owed c 10) W)
      ∗ (((cred (tallyAt (dmaCell c (semAt cc0_scratch5 1 0 inb_S4x2_S1x1_1_0)) () 8192) ∗ cred (tallyAt (dmaCell c (semAt cc0_scratch5 1 1 inb_S4x2_S1x1_1_1)) () 8192) ∗ cred (tallyAt (dmaCell c (semAt cc0_scratch7 1 0 inb_S4x2_S1x1_1_0)) () 8192)) ∗ owes (c : Thread nD τ) (owed c 13) W) -∗ Kt ⟨⟩))
      ⊢ wp frame (wpE (defs₀ (F := F)) 𝒱₀ (c : Thread nD τ) none) Set.univ (atBufs (k0_part19 (F := F)) c v5 v7) Kt := by
  unfold atBufs
  rw [k0_part19_eq_skeleton]; unfold k0_part19_skel
  simp only [Prog.lift, Prog.bind_op, Prog.bind_ret, Prog.pure_eq_ret, sendP, recvP]
  iintro ⟨⟨⟨HtK2, HtK3, HtV2⟩, ⟨HsK2, HsK3, HsV2⟩, ⟨HdK2, HdK3, HdV2⟩, HO⟩, Hk⟩
  iapply (wp_send_tok KL VL c (nxt c) _ (Fin.ext (k0_dev11_eq c)) (q := fullShare.right) (fs := gath KL c) (O := owed c 11) (W := W) 8192 (gath KL (nxt c))
      rfl rfl rfl rfl rfl (landK_half KL (d := 0) (by decide) (by decide) (congrArg prv (prv_nxt c)))) $$ [HtK2 HsK2 HdK2 HO]
  · isplitl [HtK2]; · iexact HtK2
    isplitl [HsK2]; · iexact HsK2
    isplitl [HdK2]; · iexact HdK2
    iexact HO
  iintro ⟨HcK2, HO⟩
  iapply (wp_send_tok KL VL c (prv c) _ (Fin.ext (k0_dev12_eq c)) (q := fullShare.right) (fs := gath KL c) (O := owed c 12) (W := W) 8192 (gath KL (prv c))
      rfl rfl rfl rfl rfl (landK_half KL (d := 1) (by decide) (by decide) (congrArg nxt (nxt_prv c)))) $$ [HtK3 HsK3 HdK3 HO]
  · isplitl [HtK3]; · iexact HtK3
    isplitl [HsK3]; · iexact HsK3
    isplitl [HdK3]; · iexact HdK3
    iexact HO
  iintro ⟨HcK3, HO⟩
  iapply (wp_send_tok KL VL c (nxt c) _ (Fin.ext (k0_dev13_eq c)) (q := fullShare.right) (fs := gath VL c) (O := owed c 13) (W := W) 8192 (gath VL (nxt c))
      rfl rfl rfl rfl rfl (landV_half VL (d := 0) (by decide) (by decide) (congrArg prv (prv_nxt c)))) $$ [HtV2 HsV2 HdV2 HO]
  · isplitl [HtV2]; · iexact HtV2
    isplitl [HsV2]; · iexact HsV2
    isplitl [HdV2]; · iexact HdV2
    iexact HO
  iintro ⟨HcV2, HO⟩
  rw [wp_ret]; imodintro
  iapply Hk
  isplitl [HcK2 HcK3 HcV2]
  · isplitl [HcK2]; · iexact HcK2
    isplitl [HcK3]; · iexact HcK3
    iexact HcV2
  iexact HO

/-- Two departures of halves. -/
theorem part20_run (c : Dev nD) (v5 v7 : BitVec 32) (W : Waits sig Unit) (Kt : PUnit → sProp 𝕄) :
    iprop(((tokP KL VL c (prv c) (semAt cc0_scratch7 1 1 inb_S4x2_S1x1_1_1) (semAt cc0_scratch8 1 1 inb_S4x2_S1x1_1_1) ∗ tokP KL VL c (nxt c) (semAt cc0_scratch5 3 0 inb_S4x2_S1x1_3_0) (semAt cc0_scratch6 3 0 inb_S4x2_S1x1_3_0))
        ∗ (sendP vlM vbM c (VL c) (gath VL c) 3 ∗ sendP klM kbM c (KL c) (gath KL c) 6)
        ∗ ((∃ f, recvP vbM (prv c) f 3) ∗ (∃ f, recvP kbM (nxt c) f 6))
        ∗ owes (c : Thread nD τ) (owed c 13) W)
      ∗ (((cred (tallyAt (dmaCell c (semAt cc0_scratch7 1 1 inb_S4x2_S1x1_1_1)) () 8192) ∗ cred (tallyAt (dmaCell c (semAt cc0_scratch5 3 0 inb_S4x2_S1x1_3_0)) () 8192)) ∗ owes (c : Thread nD τ) (owed c 15) W) -∗ Kt ⟨⟩))
      ⊢ wp frame (wpE (defs₀ (F := F)) 𝒱₀ (c : Thread nD τ) none) Set.univ (atBufs (k0_part20 (F := F)) c v5 v7) Kt := by
  unfold atBufs
  rw [k0_part20_eq_skeleton]; unfold k0_part20_skel
  simp only [Prog.lift, Prog.bind_op, Prog.bind_ret, Prog.pure_eq_ret, sendP, recvP]
  iintro ⟨⟨⟨HtV3, HtK6⟩, ⟨HsV3, HsK6⟩, ⟨HdV3, HdK6⟩, HO⟩, Hk⟩
  iapply (wp_send_tok KL VL c (prv c) _ (Fin.ext (k0_dev14_eq c)) (q := fullShare.right) (fs := gath VL c) (O := owed c 14) (W := W) 8192 (gath VL (prv c))
      rfl rfl rfl rfl rfl (landV_half VL (d := 1) (by decide) (by decide) (congrArg nxt (nxt_prv c)))) $$ [HtV3 HsV3 HdV3 HO]
  · isplitl [HtV3]; · iexact HtV3
    isplitl [HsV3]; · iexact HsV3
    isplitl [HdV3]; · iexact HdV3
    iexact HO
  iintro ⟨HcV3, HO⟩
  iapply (wp_send_tok KL VL c (nxt c) _ (Fin.ext (k0_dev15_eq c)) (q := fullShare.right) (fs := gath KL c) (O := owed c 15) (W := W) 8192 (gath KL (nxt c))
      rfl rfl rfl rfl rfl (landK_half KL (d := 0) (by decide) (by decide) (congrArg prv (prv_nxt c)))) $$ [HtK6 HsK6 HdK6 HO]
  · isplitl [HtK6]; · iexact HtK6
    isplitl [HsK6]; · iexact HsK6
    isplitl [HdK6]; · iexact HdK6
    iexact HO
  iintro ⟨HcK6, HO⟩
  rw [wp_ret]; imodintro
  iapply Hk
  isplitl [HcV3 HcK6]
  · isplitl [HcV3]; · iexact HcV3
    iexact HcK6
  iexact HO

/-- Two departures of halves. -/
theorem part21_run (c : Dev nD) (v5 v7 : BitVec 32) (W : Waits sig Unit) (Kt : PUnit → sProp 𝕄) :
    iprop(((tokP KL VL c (prv c) (semAt cc0_scratch5 3 1 inb_S4x2_S1x1_3_1) (semAt cc0_scratch6 3 1 inb_S4x2_S1x1_3_1) ∗ tokP KL VL c (nxt c) (semAt cc0_scratch7 3 0 inb_S4x2_S1x1_3_0) (semAt cc0_scratch8 3 0 inb_S4x2_S1x1_3_0))
        ∗ (sendP klM kbM c (KL c) (gath KL c) 7 ∗ sendP vlM vbM c (VL c) (gath VL c) 6)
        ∗ ((∃ f, recvP kbM (prv c) f 7) ∗ (∃ f, recvP vbM (nxt c) f 6))
        ∗ owes (c : Thread nD τ) (owed c 15) W)
      ∗ (((cred (tallyAt (dmaCell c (semAt cc0_scratch5 3 1 inb_S4x2_S1x1_3_1)) () 8192) ∗ cred (tallyAt (dmaCell c (semAt cc0_scratch7 3 0 inb_S4x2_S1x1_3_0)) () 8192)) ∗ owes (c : Thread nD τ) (owed c 17) W) -∗ Kt ⟨⟩))
      ⊢ wp frame (wpE (defs₀ (F := F)) 𝒱₀ (c : Thread nD τ) none) Set.univ (atBufs (k0_part21 (F := F)) c v5 v7) Kt := by
  unfold atBufs
  rw [k0_part21_eq_skeleton]; unfold k0_part21_skel
  simp only [Prog.lift, Prog.bind_op, Prog.bind_ret, Prog.pure_eq_ret, sendP, recvP]
  iintro ⟨⟨⟨HtK7, HtV6⟩, ⟨HsK7, HsV6⟩, ⟨HdK7, HdV6⟩, HO⟩, Hk⟩
  iapply (wp_send_tok KL VL c (prv c) _ (Fin.ext (k0_dev16_eq c)) (q := fullShare.right) (fs := gath KL c) (O := owed c 16) (W := W) 8192 (gath KL (prv c))
      rfl rfl rfl rfl rfl (landK_half KL (d := 1) (by decide) (by decide) (congrArg nxt (nxt_prv c)))) $$ [HtK7 HsK7 HdK7 HO]
  · isplitl [HtK7]; · iexact HtK7
    isplitl [HsK7]; · iexact HsK7
    isplitl [HdK7]; · iexact HdK7
    iexact HO
  iintro ⟨HcK7, HO⟩
  iapply (wp_send_tok KL VL c (nxt c) _ (Fin.ext (k0_dev17_eq c)) (q := fullShare.right) (fs := gath VL c) (O := owed c 17) (W := W) 8192 (gath VL (nxt c))
      rfl rfl rfl rfl rfl (landV_half VL (d := 0) (by decide) (by decide) (congrArg prv (prv_nxt c)))) $$ [HtV6 HsV6 HdV6 HO]
  · isplitl [HtV6]; · iexact HtV6
    isplitl [HsV6]; · iexact HsV6
    isplitl [HdV6]; · iexact HdV6
    iexact HO
  iintro ⟨HcV6, HO⟩
  rw [wp_ret]; imodintro
  iapply Hk
  isplitl [HcK7 HcV6]
  · isplitl [HcK7]; · iexact HcK7
    iexact HcV6
  iexact HO

end Cert.Attn
-- ==== Proof.Queries.lean ====
/-
The end of the first phase: the last departure of `V`, and the queries, computed a batch at a time.
-/
module

public import proofs.«01_k».proof.Proof.Start

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (KL VL : Dev nD → S2x512x512.Idx → Elt F .bf16)

abbrev xM : Memref sig .tc .vmem S2x512x768 .bf16 := Memref.whole cc0_stg0_0
abbrev wqM : Memref sig .tc .vmem S768x512 .bf16 := Memref.whole cc0_stg1_0
abbrev qM : Memref sig .tc .vmem S2x512x512 .bf16 := Memref.whole cc0_scratch4

/-- The queries: batch by batch `x · Wq`, rounded. -/
def qOf (fx : S2x512x768.Idx → Elt F .bf16) (fw : S768x512.Idx → Elt F .bf16) : S2x512x512.Idx → Elt F .bf16 :=
  fun i => k0_pay3 (fun j : S1x512x768.Idx => fx (ix3 (i 0) (j 1) (j 2))) fw (ix3 (⟨0, Nat.one_pos⟩ : Fin 1) (i 1) (i 2))

theorem read_x (d : ℕ) (hd : d < 2) (h) (f : S2x512x768.Idx → Elt F .bf16) :
    xM.view.readAt (Elt F) (Rect.unit (s := S2x512x768) ![d, 0, 0] S1x512x768.size h).toLoadRect f = fun j : S1x512x768.Idx => f (ix3 (⟨d, hd⟩ : Fin 2) (j 1) (j 2)) := by
  funext j
  have h0 : (j 0).val < 1 := (j 0).isLt
  have he : (Rect.unit (s := S2x512x768) ![d, 0, 0] S1x512x768.size h).toLoadRect.idx j = ix3 (⟨d, hd⟩ : Fin 2) (j 1) (j 2) := by
    ext a; fin_cases a <;> simp [Rect.unit, ix3, LoadRect.idx] <;> omega
  exact congrArg f he
theorem read_wq (f : S768x512.Idx → Elt F .bf16) :
    wqM.view.readAt (Elt F) (Rect.unit (s := S768x512) ![0, 0] S768x512.size inb_S768x512_S768x512_0_0).toLoadRect f = f :=
  Memref.readAt_unit_zero (Elt F) cc0_stg1_0 (funext fun a => by fin_cases a <;> rfl) _ f

theorem write_q (d : ℕ) (h) (f : S2x512x512.Idx → Elt F .bf16) (w : S1x512x512.Idx → Elt F .bf16) (i : S2x512x512.Idx) :
    (qM.access (Rect.unit (s := S2x512x512) ![d, 0, 0] S1x512x512.size h) : View sig .tc _ _ _).write (Elt F) f w Finset.univ i
      = if (i 0).val = d then w (ix3 (⟨0, Nat.one_pos⟩ : Fin 1) (i 1) (i 2)) else f i := by
  split_ifs with hd
  · have he : (qM.access (Rect.unit (s := S2x512x512) ![d, 0, 0] S1x512x512.size h) : View sig .tc _ _ _).emb (ix3 (⟨0, Nat.one_pos⟩ : Fin 1) (i 1) (i 2)) = i := by
      show (Rect.unit (s := S2x512x512) ![d, 0, 0] S1x512x512.size h).emb _ = i
      ext a; fin_cases a <;> simp [Rect.emb, Rect.unit, ix3] <;> omega
    have := View.write_emb_of_mem (v := (qM.access (Rect.unit (s := S2x512x512) ![d, 0, 0] S1x512x512.size h) : View sig .tc _ _ _)) (Val := Elt F) f w
      (M := Finset.univ) (x := ix3 (⟨0, Nat.one_pos⟩ : Fin 1) (i 1) (i 2)) (Finset.mem_univ _)
    rw [he] at this; exact this
  · refine View.write_of_not_mem _ _ _ (fun hm => hd ?_)
    rw [View.setOn_univ, show (qM.access (Rect.unit (s := S2x512x512) ![d, 0, 0] S1x512x512.size h) : View sig .tc _ _ _).set
      = (Rect.unit (s := S2x512x512) ![d, 0, 0] S1x512x512.size h).set from View.set_slice_whole _ _] at hm
    exact mem_loc.mp hm

theorem q_written (fx : S2x512x768.Idx → Elt F .bf16) (fw : S768x512.Idx → Elt F .bf16) (f : S2x512x512.Idx → Elt F .bf16) :
    (qM.access (Rect.unit (s := S2x512x512) ![1, 0, 0] S1x512x512.size inb_S2x512x512_S1x512x512_1_0_0) : View sig .tc _ _ _).write (Elt F)
      ((qM.access (Rect.unit (s := S2x512x512) ![0, 0, 0] S1x512x512.size inb_S2x512x512_S1x512x512_0_0_0) : View sig .tc _ _ _).write (Elt F) f
        (k0_pay3 (fun j : S1x512x768.Idx => fx (ix3 (⟨0, by decide⟩ : Fin 2) (j 1) (j 2))) fw) Finset.univ)
      (k0_pay4 (fun j : S1x512x768.Idx => fx (ix3 (⟨1, by decide⟩ : Fin 2) (j 1) (j 2))) fw) Finset.univ = qOf fx fw := by
  funext i
  have h0 : (i 0).val < 2 := (i 0).isLt
  rw [write_q, write_q]
  unfold qOf
  split_ifs with h h'
  · rw [show i 0 = (⟨1, by decide⟩ : Fin 2) from Fin.ext h]; rfl
  · rw [show i 0 = (⟨0, by decide⟩ : Fin 2) from Fin.ext h']
  · omega

/-- The last departure of `V`, then the queries. -/
theorem part5_run (c : Dev nD) (fx : S2x512x768.Idx → Elt F .bf16) (fw : S768x512.Idx → Elt F .bf16) (W : Waits sig Unit)
    (Kt : (Σ' (v123 : IVec S512x512 32) (v124 : IVec S512x512 32) (c64_i32 : BitVec 32) (v126 : IVec S512x512 32) (v129 : IVec S512x512 32), BitVec 32) → sProp 𝕄) :
    iprop((tokP KL VL c (nxt c) (semAt cc0_scratch7 2 1 inb_S4x2_S1x1_2_1) (semAt cc0_scratch8 2 1 inb_S4x2_S1x1_2_1) ∗ sendP vlM vbM c (VL c) (gath VL c) 5 ∗ (∃ f, recvP vbM (nxt c) f 5)
        ∗ buf c cc0_stg0_0 fx ∗ buf c cc0_stg1_0 fw ∗ (∃ f, buf c cc0_scratch4 f) ∗ owes (c : Thread nD τ) (owed c 9) W)
      ∗ ((cred (tallyAt (dmaCell c (semAt cc0_scratch7 2 1 inb_S4x2_S1x1_2_1)) () 16384) ∗ buf c cc0_stg0_0 fx ∗ buf c cc0_stg1_0 fw ∗ buf c cc0_scratch4 (qOf fx fw) ∗ owes (c : Thread nD τ) (owed c 10) W)
          -∗ Kt ⟨iota .tc S512x512 32 [0] iota_S512x512_d0_w32, iota .tc S512x512 32 [1] iota_S512x512_d1_w32, 64#32, k0_pay5, k0_pay6, 0#32⟩))
      ⊢ wp frame (wpE (defs₀ (F := F)) 𝒱₀ (c : Thread nD τ) none) Set.univ (atBufs (k0_part5 (F := F)) c) Kt := by
  unfold atBufs
  rw [k0_part5_eq_skeleton]; unfold k0_part5_skel
  simp only [Prog.lift, Prog.bind_op, Prog.bind_ret, Prog.pure_eq_ret, sendP, recvP]
  iintro ⟨⟨HtV5, HsV5, HdV5, Hx, Hw, ⟨%f0, Hq⟩, HO⟩, Hk⟩
  iapply (wp_send_tok KL VL c (nxt c) _ (Fin.ext (k0_dev10_eq c)) (q := qDir) (fs := VL c) (O := owed c 10) (W := W) 16384 (gath VL (nxt c))
      rfl rfl rfl rfl rfl (landV_full VL (s := 2) (d := 1) (by decide) (by decide) (prv_nxt c))) $$ [HtV5 HsV5 HdV5 HO]
  · isplitl [HtV5]; · iexact HtV5
    isplitl [HsV5]; · iexact HsV5
    isplitl [HdV5]; · iexact HdV5
    iexact HO
  iintro ⟨HcV5, HO⟩
  iapply (wp_load 𝒱₀ (c : Thread nD τ) none Set.univ (m := xM) (Finset.subset_univ _)) $$ Hx; iintro Hx
  rw [read_x 0 (by decide)]
  iapply (wp_load 𝒱₀ (c : Thread nD τ) none Set.univ (m := wqM) (Finset.subset_univ _)) $$ Hw; iintro Hw
  rw [read_wq]
  iapply (wp_load 𝒱₀ (c : Thread nD τ) none Set.univ (m := qM) (Finset.subset_univ _)) $$ Hq; iintro Hq
  iapply (wp_store 𝒱₀ (c : Thread nD τ) none Set.univ (m := qM) (r := Rect.unit (s := S2x512x512) ![0, 0, 0] S1x512x512.size inb_S2x512x512_S1x512x512_0_0_0) (Mk := Finset.univ) (Finset.subset_univ _)) $$ Hq; iintro Hq
  iapply (wp_load 𝒱₀ (c : Thread nD τ) none Set.univ (m := xM) (Finset.subset_univ _)) $$ Hx; iintro Hx
  rw [read_x 1 (by decide)]
  iapply (wp_load 𝒱₀ (c : Thread nD τ) none Set.univ (m := wqM) (Finset.subset_univ _)) $$ Hw; iintro Hw
  rw [read_wq]
  iapply (wp_load 𝒱₀ (c : Thread nD τ) none Set.univ (m := qM) (Finset.subset_univ _)) $$ Hq; iintro Hq
  iapply (wp_store 𝒱₀ (c : Thread nD τ) none Set.univ (m := qM) (r := Rect.unit (s := S2x512x512) ![1, 0, 0] S1x512x512.size inb_S2x512x512_S1x512x512_1_0_0) (Mk := Finset.univ) (Finset.subset_univ _)) $$ Hq; iintro Hq
  rw [q_written, wp_ret]; imodintro
  iapply Hk
  isplitl [HcV5]; · iexact HcV5
  isplitl [Hx]; · iexact Hx
  isplitl [Hw]; · iexact Hw
  isplitl [Hq]; · iexact Hq
  iexact HO

end Cert.Attn
-- ==== Proof.Cells.lean ====
/-
A device's resources at the start of the body, and the cells it waits on.
-/
module

public import proofs.«01_k».proof.Proof.Halves
public import proofs.«01_k».proof.Proof.Queries

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (KL VL : Dev nD → S2x512x512.Idx → Elt F .bf16)

/-- A device's own cell, its round open and nothing waited for. -/
def openP (c : Dev nD) (q : DmaSem sig) : sProp 𝕄 :=
  iprop((∃ κ, cellInv ER (Rd KL VL) κ (dmaCell c q)) ∗ atPos ER (dmaCell c q) 0 ∅ 0)

/-- The same with the credit of its wait. -/
def waitP (c : Dev nD) (q : DmaSem sig) (n : ℕ) : sProp 𝕄 :=
  iprop(openP KL VL c q ∗ cred (tallyAt (dmaCell c q) () n))

/-- A device's own cell after its wait. -/
def doneP (c : Dev nD) (q : DmaSem sig) : sProp 𝕄 :=
  iprop((∃ κ, cellInv ER (Rd KL VL) κ (dmaCell c q)) ∗ atPos ER (dmaCell c q) 1 ∅ 0)

/-- What the transfers of a device use up, the whole blocks' first. -/
def toksFull (c : Dev nD) : sProp 𝕄 :=
  iprop(tokP KL VL c (nxt c) (semAt cc0_scratch5 0 0 inb_S4x2_S1x1_0_0) (semAt cc0_scratch6 0 0 inb_S4x2_S1x1_0_0)
    ∗ tokP KL VL c (prv c) (semAt cc0_scratch5 0 1 inb_S4x2_S1x1_0_1) (semAt cc0_scratch6 0 1 inb_S4x2_S1x1_0_1)
    ∗ tokP KL VL c (prv c) (semAt cc0_scratch5 2 0 inb_S4x2_S1x1_2_0) (semAt cc0_scratch6 2 0 inb_S4x2_S1x1_2_0)
    ∗ tokP KL VL c (nxt c) (semAt cc0_scratch5 2 1 inb_S4x2_S1x1_2_1) (semAt cc0_scratch6 2 1 inb_S4x2_S1x1_2_1)
    ∗ tokP KL VL c (nxt c) (semAt cc0_scratch7 0 0 inb_S4x2_S1x1_0_0) (semAt cc0_scratch8 0 0 inb_S4x2_S1x1_0_0)
    ∗ tokP KL VL c (prv c) (semAt cc0_scratch7 0 1 inb_S4x2_S1x1_0_1) (semAt cc0_scratch8 0 1 inb_S4x2_S1x1_0_1)
    ∗ tokP KL VL c (prv c) (semAt cc0_scratch7 2 0 inb_S4x2_S1x1_2_0) (semAt cc0_scratch8 2 0 inb_S4x2_S1x1_2_0)
    ∗ tokP KL VL c (nxt c) (semAt cc0_scratch7 2 1 inb_S4x2_S1x1_2_1) (semAt cc0_scratch8 2 1 inb_S4x2_S1x1_2_1))
def toksHalf (c : Dev nD) : sProp 𝕄 :=
  iprop(tokP KL VL c (nxt c) (semAt cc0_scratch5 1 0 inb_S4x2_S1x1_1_0) (semAt cc0_scratch6 1 0 inb_S4x2_S1x1_1_0)
    ∗ tokP KL VL c (prv c) (semAt cc0_scratch5 1 1 inb_S4x2_S1x1_1_1) (semAt cc0_scratch6 1 1 inb_S4x2_S1x1_1_1)
    ∗ tokP KL VL c (nxt c) (semAt cc0_scratch7 1 0 inb_S4x2_S1x1_1_0) (semAt cc0_scratch8 1 0 inb_S4x2_S1x1_1_0)
    ∗ tokP KL VL c (prv c) (semAt cc0_scratch7 1 1 inb_S4x2_S1x1_1_1) (semAt cc0_scratch8 1 1 inb_S4x2_S1x1_1_1)
    ∗ tokP KL VL c (nxt c) (semAt cc0_scratch5 3 0 inb_S4x2_S1x1_3_0) (semAt cc0_scratch6 3 0 inb_S4x2_S1x1_3_0)
    ∗ tokP KL VL c (prv c) (semAt cc0_scratch5 3 1 inb_S4x2_S1x1_3_1) (semAt cc0_scratch6 3 1 inb_S4x2_S1x1_3_1)
    ∗ tokP KL VL c (nxt c) (semAt cc0_scratch7 3 0 inb_S4x2_S1x1_3_0) (semAt cc0_scratch8 3 0 inb_S4x2_S1x1_3_0)
    ∗ tokP KL VL c (prv c) (semAt cc0_scratch7 3 1 inb_S4x2_S1x1_3_1) (semAt cc0_scratch8 3 1 inb_S4x2_S1x1_3_1))

/-- The arrivals of slots 0, 2 and of the halves. -/
def arr0 (c : Dev nD) : sProp 𝕄 :=
  iprop(waitP KL VL c (semAt cc0_scratch6 0 0 inb_S4x2_S1x1_0_0) 16384
    ∗ waitP KL VL c (semAt cc0_scratch6 0 1 inb_S4x2_S1x1_0_1) 16384
    ∗ waitP KL VL c (semAt cc0_scratch8 0 0 inb_S4x2_S1x1_0_0) 16384
    ∗ waitP KL VL c (semAt cc0_scratch8 0 1 inb_S4x2_S1x1_0_1) 16384)
def arr2 (c : Dev nD) : sProp 𝕄 :=
  iprop(waitP KL VL c (semAt cc0_scratch6 2 0 inb_S4x2_S1x1_2_0) 16384
    ∗ waitP KL VL c (semAt cc0_scratch6 2 1 inb_S4x2_S1x1_2_1) 16384
    ∗ waitP KL VL c (semAt cc0_scratch8 2 0 inb_S4x2_S1x1_2_0) 16384
    ∗ waitP KL VL c (semAt cc0_scratch8 2 1 inb_S4x2_S1x1_2_1) 16384)
def arr1 (c : Dev nD) : sProp 𝕄 :=
  iprop(waitP KL VL c (semAt cc0_scratch6 1 0 inb_S4x2_S1x1_1_0) 8192
    ∗ waitP KL VL c (semAt cc0_scratch6 1 1 inb_S4x2_S1x1_1_1) 8192
    ∗ waitP KL VL c (semAt cc0_scratch8 1 0 inb_S4x2_S1x1_1_0) 8192
    ∗ waitP KL VL c (semAt cc0_scratch8 1 1 inb_S4x2_S1x1_1_1) 8192)
def arr3 (c : Dev nD) : sProp 𝕄 :=
  iprop(waitP KL VL c (semAt cc0_scratch6 3 0 inb_S4x2_S1x1_3_0) 8192
    ∗ waitP KL VL c (semAt cc0_scratch6 3 1 inb_S4x2_S1x1_3_1) 8192
    ∗ waitP KL VL c (semAt cc0_scratch8 3 0 inb_S4x2_S1x1_3_0) 8192
    ∗ waitP KL VL c (semAt cc0_scratch8 3 1 inb_S4x2_S1x1_3_1) 8192)

/-- The departure cells. -/
def depsFull (c : Dev nD) : sProp 𝕄 :=
  iprop(openP KL VL c (semAt cc0_scratch5 0 0 inb_S4x2_S1x1_0_0)
    ∗ openP KL VL c (semAt cc0_scratch5 0 1 inb_S4x2_S1x1_0_1)
    ∗ openP KL VL c (semAt cc0_scratch5 2 0 inb_S4x2_S1x1_2_0)
    ∗ openP KL VL c (semAt cc0_scratch5 2 1 inb_S4x2_S1x1_2_1)
    ∗ openP KL VL c (semAt cc0_scratch7 0 0 inb_S4x2_S1x1_0_0)
    ∗ openP KL VL c (semAt cc0_scratch7 0 1 inb_S4x2_S1x1_0_1)
    ∗ openP KL VL c (semAt cc0_scratch7 2 0 inb_S4x2_S1x1_2_0)
    ∗ openP KL VL c (semAt cc0_scratch7 2 1 inb_S4x2_S1x1_2_1))
def depsHalf (c : Dev nD) : sProp 𝕄 :=
  iprop(openP KL VL c (semAt cc0_scratch5 1 0 inb_S4x2_S1x1_1_0)
    ∗ openP KL VL c (semAt cc0_scratch5 1 1 inb_S4x2_S1x1_1_1)
    ∗ openP KL VL c (semAt cc0_scratch7 1 0 inb_S4x2_S1x1_1_0)
    ∗ openP KL VL c (semAt cc0_scratch7 1 1 inb_S4x2_S1x1_1_1)
    ∗ openP KL VL c (semAt cc0_scratch5 3 0 inb_S4x2_S1x1_3_0)
    ∗ openP KL VL c (semAt cc0_scratch5 3 1 inb_S4x2_S1x1_3_1)
    ∗ openP KL VL c (semAt cc0_scratch7 3 0 inb_S4x2_S1x1_3_0)
    ∗ openP KL VL c (semAt cc0_scratch7 3 1 inb_S4x2_S1x1_3_1))

end Cert.Attn
-- ==== Proof.Slots.lean ====
/-
A received slot, split for the copies that pass it on and for the loads; and the collected shares put together again.
-/
module

public import proofs.«01_k».proof.Proof.Cells

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (KL VL : Dev nD → S2x512x512.Idx → Elt F .bf16)

/-- Batch 0 of slot 0, its loads' share kept, the other in the two halves its copies take on. -/
theorem split_slot0 (Ml : Memref sig .tc .vmem S2x512x512 .bf16) (M : Memref sig .tc .vmem S3x2x512x512 .bf16) (c : Dev nD)
    (fl : Buf (Elt F) (Ml.view.loc (c : Thread nD τ))) (f : Buf (Elt F) (M.view.loc (c : Thread nD τ))) :
    (recvP M c f 0 : sProp 𝕄) ⊣⊢ iprop(held (fullW M 0 0 inb_S3x2x512x512_S1x1x512x512_0_0_0_0) c fullShare.left f ∗ sendP Ml M c fl f 2 ∗ sendP Ml M c fl f 6) :=
  (pointsTo_share (PosShare.mem_left_op_right fullShare)).trans (sep_congr (BiEntails.rfl) (split_half M c 0 (by decide) _ _ _ fullShare.right f))

/-- Batch 1 likewise. -/
theorem split_slot1 (Ml : Memref sig .tc .vmem S2x512x512 .bf16) (M : Memref sig .tc .vmem S3x2x512x512 .bf16) (c : Dev nD)
    (fl : Buf (Elt F) (Ml.view.loc (c : Thread nD τ))) (f : Buf (Elt F) (M.view.loc (c : Thread nD τ))) :
    (recvP M c f 1 : sProp 𝕄) ⊣⊢ iprop(held (fullW M 0 1 inb_S3x2x512x512_S1x1x512x512_0_1_0_0) c fullShare.left f ∗ sendP Ml M c fl f 3 ∗ sendP Ml M c fl f 7) :=
  (pointsTo_share (PosShare.mem_left_op_right fullShare)).trans (sep_congr (BiEntails.rfl) (split_half M c 1 (by decide) _ _ _ fullShare.right f))

end Cert.Attn
-- ==== Proof.Run.lean ====
/-
The body of the kernel, run on a device: the barrier and the departures by their lemmas, the computation by execution.
-/
module

public import proofs.«01_k».proof.Proof.Cells

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (KL VL : Dev nD → S2x512x512.Idx → Elt F .bf16)

/-- What a device holds when its body starts. -/
def startP (c : Dev nD) : sProp 𝕄 :=
  iprop((levAts L lv ∗ ∃ κ, cellInv ER (Rd KL VL) κ (barCell c)) ∗ sigP KL VL (prv c) true ∗ sigP KL VL (nxt c) false ∗ barW KL VL c ∗ toksFull KL VL c ∗ toksHalf KL VL c
    ∗ arr0 KL VL c ∗ arr2 KL VL c ∗ arr1 KL VL c ∗ arr3 KL VL c ∗ depsFull KL VL c ∗ depsHalf KL VL c)

/-- The scratch buffers, with any contents. -/
def scratchP (c : Dev nD) : sProp 𝕄 :=
  iprop((∃ f : S2x512x512.Idx → Elt F .bf16, buf c cc0_scratch0 f) ∗ (∃ f : S2x512x512.Idx → Elt F .bf16, buf c cc0_scratch1 f)
    ∗ (∃ f : S3x2x512x512.Idx → Elt F .bf16, buf c cc0_scratch2 f) ∗ (∃ f : S3x2x512x512.Idx → Elt F .bf16, buf c cc0_scratch3 f)
    ∗ (∃ f : S2x512x512.Idx → Elt F .bf16, buf c cc0_scratch4 f))

/-- The staged arguments. -/
def argsP (c : Dev nD) (fx : S2x512x768.Idx → Elt F .bf16) (fw : S768x512.Idx → Elt F .bf16) (fk fv : S2x512x8x64.Idx → Elt F .bf16)
    (fo : S512x768.Idx → Elt F .bf16) : sProp 𝕄 :=
  iprop(buf c cc0_stg0_0 fx ∗ buf c cc0_stg1_0 fw ∗ buf c cc0_stg2_0 fk ∗ buf c cc0_stg3_0 fv ∗ buf c cc0_stg4_0 fo)

theorem held_kb (c : Dev nD) (f) : (held kbM c fullShare f : sProp 𝕄) = buf c cc0_scratch2 f := by
  unfold held buf; rw [show (kbM : Memref sig .tc .vmem S3x2x512x512 .bf16).view.set = Finset.univ from View.set_whole _]
theorem held_vb (c : Dev nD) (f) : (held vbM c fullShare f : sProp 𝕄) = buf c cc0_scratch3 f := by
  unfold held buf; rw [show (vbM : Memref sig .tc .vmem S3x2x512x512 .bf16).view.set = Finset.univ from View.set_whole _]

theorem held_q (c : Dev nD) (f) : (held qM c fullShare f : sProp 𝕄) = buf c cc0_scratch4 f := by
  unfold held buf; rw [show (qM : Memref sig .tc .vmem S2x512x512 .bf16).view.set = Finset.univ from View.set_whole _]

theorem barP_intro (c : Dev nD) (f g : S3x2x512x512.Idx → Elt F .bf16) (i₁ i₂ i₃ i₄ : ℕ) :
    iprop(recvP kbM c f i₁ ∗ recvP kbM c f i₂ ∗ recvP kbM c f i₃ ∗ recvP kbM c f i₄
      ∗ recvP vbM c g i₁ ∗ recvP vbM c g i₂ ∗ recvP vbM c g i₃ ∗ recvP vbM c g i₄) ⊢ (barP c i₁ i₂ i₃ i₄ : sProp 𝕄) := by
  unfold barP
  iintro ⟨a, b, d, e, a', b', d', e'⟩
  isplitl [a]; · iexists f; iexact a
  isplitl [b]; · iexists f; iexact b
  isplitl [d]; · iexists f; iexact d
  isplitl [e]; · iexists f; iexact e
  isplitl [a']; · iexists g; iexact a'
  isplitl [b']; · iexists g; iexact b'
  isplitl [d']; · iexists g; iexact d'
  iexists g; iexact e'

variable (fx : S2x512x768.Idx → Elt F .bf16) (fw : S768x512.Idx → Elt F .bf16) (fk fv : S2x512x8x64.Idx → Elt F .bf16)
    (fo : S512x768.Idx → Elt F .bf16)

/-- Up to the end of the own block's attention. -/
def run₁ (c : Dev nD) (hK : KL c = k0_pay1 fk) (hV : VL c = k0_pay2 fv) (W : Waits sig Unit) (R : (S2x512x768.Idx → Elt F .bf16) → sProp 𝕄) : Σ' (G : Prop), G → ∀ Kt : PUnit → sProp 𝕄,
    iprop(startP KL VL c ∗ scratchP c ∗ argsP c fx fw fk fv fo ∗ (∃ f : S2x512x768.Idx → Elt F .bf16, buf c cc0_stg5_0 f)
        ∗ owes (c : Thread nD τ) (owed c 0) W ∗ (∀ f, R f -∗ Kt ⟨⟩))
      ⊢ wp frame (wpE (defs₀ (F := F)) 𝒱₀ (c : Thread nD τ) none) Set.univ (atBufs (cc0_body (F := F))) Kt := by
  sl_stretch
  intro Kt
  unfold atBufs
  rw [cc0_body_eq_skeleton]; unfold cc0_body_skel
  rw [k0_part62_eq_skeleton]; unfold k0_part62_skel
  simp only [Prog.bind_assoc]
  unfold startP scratchP argsP
  iintro ⟨⟨⟨#Hlev, ⟨%κB, #IB⟩⟩, Hs1, Hs2, Hbar, HtF, HtH, Ha0, Ha2, Ha1, Ha3, HdF, HdH⟩, ⟨H6, H7, ⟨%f8, H8⟩, ⟨%f9, H9⟩, H10⟩, ⟨Hx, Hw, Hk, Hv, Ho⟩, ⟨%f5, H5⟩, HO, HR⟩
  ihave H8 := (Entails.of_eq ((held_kb c f8).symm.trans (split_win kbM c f8))) $$ H8
  icases H8 with ⟨K0, K1, K2, K3, K4, K5, K6, K7⟩
  ihave H9 := (Entails.of_eq ((held_vb c f9).symm.trans (split_win vbM c f9))) $$ H9
  icases H9 with ⟨V0, V1, V2, V3, V4, V5, V6, V7⟩
  unfold toksFull
  icases HtF with ⟨tK0, tK1, tK4, tK5, tV0, tV1, tV4, tV5⟩
  rw [wp_bind]
  iapply (part1_run KL VL c fk W)
  isplitl [Hs1 Hs2 Hbar K0 K1 K2 K3 K4 K5 K6 K7 V0 V1 V2 V3 V4 V5 V6 V7 Hk H6 HO]
  · isplitr; · iexact Hlev
    isplitl [Hs1]; · iexact Hs1
    isplitl [Hs2]; · iexact Hs2
    isplitl [Hbar]; · iexact Hbar
    isplitl [K0 K2 K5 K6 V0 V2 V5 V6]
    · iapply (barP_intro c f8 f9 0 2 5 6)
      isplitl [K0]; · iexact K0
      isplitl [K2]; · iexact K2
      isplitl [K5]; · iexact K5
      isplitl [K6]; · iexact K6
      isplitl [V0]; · iexact V0
      isplitl [V2]; · iexact V2
      isplitl [V5]; · iexact V5
      iexact V6
    isplitl [K1 K3 K4 K7 V1 V3 V4 V7]
    · iapply (barP_intro c f8 f9 1 3 4 7)
      isplitl [K1]; · iexact K1
      isplitl [K3]; · iexact K3
      isplitl [K4]; · iexact K4
      isplitl [K7]; · iexact K7
      isplitl [V1]; · iexact V1
      isplitl [V3]; · iexact V3
      isplitl [V4]; · iexact V4
      iexact V7
    isplitl [Hk]; · iexact Hk
    isplitl [H6]; · iexact H6
    iexact HO
  iintro %v5 %v7 ⟨Hn, Hp, Hbar, Hk, H6, HO⟩
  rw [← hK]
  ihave H6 := (split_kl KL c) $$ H6
  icases H6 with ⟨H6, SK0, SK1, SK4, SK5⟩
  unfold barP
  icases Hn with ⟨nK0, nK2, nK5, nK6, nV0, nV2, nV5, nV6⟩
  icases Hp with ⟨pK1, pK3, pK4, pK7, pV1, pV3, pV4, pV7⟩
  dsimp only
  rw [wp_bind]
  iapply (part2_run KL VL c v5 (insert (SemLoc.reg barS, ()) W))
  isplitl [tK0 tK1 tK4 SK0 SK1 SK4 nK0 pK1 pK4 HO]
  · isplitl [tK0 tK1 tK4]
    · isplitl [tK0]; · iexact tK0
      isplitl [tK1]; · iexact tK1
      iexact tK4
    isplitl [SK0 SK1 SK4]
    · isplitl [SK0]; · iexact SK0
      isplitl [SK1]; · iexact SK1
      iexact SK4
    isplitl [nK0 pK1 pK4]
    · isplitl [nK0]; · iexact nK0
      isplitl [pK1]; · iexact pK1
      iexact pK4
    iexact HO
  iintro ⟨⟨cK0, cK1, cK4⟩, HO⟩
  rw [wp_bind]
  iapply (part3_run KL VL c fv hV v7 (insert (SemLoc.reg barS, ()) W))
  isplitl [tK5 tV0 SK5 nK5 nV0 Hv H7 HO]
  · isplitl [tK5 tV0]
    · isplitl [tK5]; · iexact tK5
      iexact tV0
    isplitl [SK5]; · iexact SK5
    isplitl [nK5 nV0]
    · isplitl [nK5]; · iexact nK5
      iexact nV0
    isplitl [Hv]; · iexact Hv
    isplitl [H7]; · iexact H7
    iexact HO
  iintro ⟨⟨cK5, cV0⟩, H7, ⟨SV1, SV4, SV5⟩, Hv, HO⟩
  rw [wp_bind]
  iapply (part4_run KL VL c v5 v7 (insert (SemLoc.reg barS, ()) W))
  isplitl [tV1 tV4 SV1 SV4 pV1 pV4 HO]
  · isplitl [tV1 tV4]
    · isplitl [tV1]; · iexact tV1
      iexact tV4
    isplitl [SV1 SV4]
    · isplitl [SV1]; · iexact SV1
      iexact SV4
    isplitl [pV1 pV4]
    · isplitl [pV1]; · iexact pV1
      iexact pV4
    iexact HO
  iintro ⟨⟨cV1, cV4⟩, HO⟩
  rw [wp_bind]
  iapply (part5_run KL VL c fx fw (insert (SemLoc.reg barS, ()) W))
  isplitl [tV5 SV5 nV5 Hx Hw H10 HO]
  · isplitl [tV5]; · iexact tV5
    isplitl [SV5]; · iexact SV5
    isplitl [nV5]; · iexact nV5
    isplitl [Hx]; · iexact Hx
    isplitl [Hw]; · iexact Hw
    isplitl [H10]; · iexact H10
    iexact HO
  iintro ⟨cV5, Hx, Hw, H10, HO⟩
  dsimp only
  ihave H10 := (Entails.of_eq (held_q c (qOf fx fw)).symm) $$ H10
  unfold buf held
  set_option sl_exec.stopBefore "k0_part17" in sl_exec_parts
  sl_seam

end Cert.Attn
-- ==== Proof.Run2.lean ====
/-
The run from the own block's attention on: the first arrivals, and the halves passed on.
-/
module

public import proofs.«01_k».proof.Proof.Slots
public import proofs.«01_k».proof.Proof.Run

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (KL VL : Dev nD → S2x512x512.Idx → Elt F .bf16)

variable (fx : S2x512x768.Idx → Elt F .bf16) (fw : S768x512.Idx → Elt F .bf16) (fk fv : S2x512x8x64.Idx → Elt F .bf16)
    (fo : S512x768.Idx → Elt F .bf16)

attribute [local sl_rounds] duties_dma expect_dma amount_dma payload_dma Finset.sdiff_empty

/-- Up to the last departure. -/
def run₂ (c : Dev nD) (hK : KL c = k0_pay1 fk) (hV : VL c = k0_pay2 fv) (W : Waits sig Unit) (R : (S2x512x768.Idx → Elt F .bf16) → sProp 𝕄) : Σ' (G : Prop), G → (run₁ KL VL fx fw fk fv fo c hK hV W R).1 := by
  sl_stretch
  sl_resume
  unfold arr0 waitP openP
  icases Ha0 with ⟨aK0, aK1, aV0, aV1⟩
  icases aK0 with ⟨⟨⟨%κK0, #IK0⟩, PK0⟩, CK0⟩
  icases aK1 with ⟨⟨⟨%κK1, #IK1⟩, PK1⟩, CK1⟩
  icases aV0 with ⟨⟨⟨%κV0, #IV0⟩, PV0⟩, CV0⟩
  icases aV1 with ⟨⟨⟨%κV1, #IV1⟩, PV1⟩, CV1⟩
  have hmw (q : DmaSem sig) (hq : lv ((c : Thread nD τ), .dma q) () ≤ 2) : (levAts L lv : sProp 𝕄) ⊢ MayWait (c : Thread nD τ) (.dma q) () (owed c 10) :=
    mayWait_above c (.dma q) 2 hq (owed c 10) (above_owed c).2
  have mK0 := hmw (semAt cc0_scratch6 0 0 inb_S4x2_S1x1_0_0) (le_refl 2)
  have mK1 := hmw (semAt cc0_scratch6 0 1 inb_S4x2_S1x1_0_1) (le_refl 2)
  have mV0 := hmw (semAt cc0_scratch8 0 0 inb_S4x2_S1x1_0_0) (le_refl 2)
  have mV1 := hmw (semAt cc0_scratch8 0 1 inb_S4x2_S1x1_0_1) (le_refl 2)
  clear hmw
  set_option sl_exec.stopBefore "k0_part19" in sl_exec_parts
  clear mK0 mK1 mV0 mV1
  ihave SK0 := ((Entails.of_eq (rfl : dmaPay KL VL (semAt cc0_scratch6 0 0 inb_S4x2_S1x1_0_0).val c = recvP kbM c (gath KL c) 0)).trans (split_slot0 klM kbM c (KL c) (gath KL c)).1) $$ PK0_pay1
  icases SK0 with ⟨GK0, SK2, SK6⟩
  ihave SK1 := ((Entails.of_eq (rfl : dmaPay KL VL (semAt cc0_scratch6 0 1 inb_S4x2_S1x1_0_1).val c = recvP kbM c (gath KL c) 1)).trans (split_slot1 klM kbM c (KL c) (gath KL c)).1) $$ PK1_pay1
  icases SK1 with ⟨GK1, SK3, SK7⟩
  ihave SV0 := ((Entails.of_eq (rfl : dmaPay KL VL (semAt cc0_scratch8 0 0 inb_S4x2_S1x1_0_0).val c = recvP vbM c (gath VL c) 0)).trans (split_slot0 vlM vbM c (VL c) (gath VL c)).1) $$ PV0_pay1
  icases SV0 with ⟨GV0, SV2, SV6⟩
  ihave SV1 := ((Entails.of_eq (rfl : dmaPay KL VL (semAt cc0_scratch8 0 1 inb_S4x2_S1x1_0_1).val c = recvP vbM c (gath VL c) 1)).trans (split_slot1 vlM vbM c (VL c) (gath VL c)).1) $$ PV1_pay1
  icases SV1 with ⟨GV1, SV3, SV7⟩
  have hO : ∀ W' : Waits sig Unit, (owes (c : Thread nD τ) (owed c 10) W' : sProp 𝕄) ⊢ iprop(∃ W'', owes (c : Thread nD τ) (owed c 10) W'') := fun W' => by
    iintro H; iexists W'; iexact H
  ihave HO' := (hO (insert (SemLoc.dma (semAt cc0_scratch8 0 1 inb_S4x2_S1x1_0_1), ()) (insert (SemLoc.dma (semAt cc0_scratch8 0 0 inb_S4x2_S1x1_0_0), ())
    (insert (SemLoc.dma (semAt cc0_scratch6 0 1 inb_S4x2_S1x1_0_1), ()) (insert (SemLoc.dma (semAt cc0_scratch6 0 0 inb_S4x2_S1x1_0_0), ()) (insert (SemLoc.reg barS, ()) W)))))) $$ HO
  icases HO' with ⟨%W₂, HO⟩
  clear hO
  unfold toksHalf
  icases HtH with ⟨tK2, tK3, tV2, tV3, tK6, tK7, tV6, tV7⟩
  rw [wp_bind]
  iapply (part19_run KL VL c v5 v7 W₂)
  isplitl [tK2 tK3 tV2 SK2 SK3 SV2 nK2 pK3 nV2 HO]
  · isplitl [tK2 tK3 tV2]
    · isplitl [tK2]; · iexact tK2
      isplitl [tK3]; · iexact tK3
      iexact tV2
    isplitl [SK2 SK3 SV2]
    · isplitl [SK2]; · iexact SK2
      isplitl [SK3]; · iexact SK3
      iexact SV2
    isplitl [nK2 pK3 nV2]
    · isplitl [nK2]; · iexact nK2
      isplitl [pK3]; · iexact pK3
      iexact nV2
    iexact HO
  iintro ⟨⟨cK2, cK3, cV2⟩, HO⟩
  rw [wp_bind]
  iapply (part20_run KL VL c v5 v7 W₂)
  isplitl [tV3 tK6 SV3 SK6 pV3 nK6 HO]
  · isplitl [tV3 tK6]
    · isplitl [tV3]; · iexact tV3
      iexact tK6
    isplitl [SV3 SK6]
    · isplitl [SV3]; · iexact SV3
      iexact SK6
    isplitl [pV3 nK6]
    · isplitl [pV3]; · iexact pV3
      iexact nK6
    iexact HO
  iintro ⟨⟨cV3, cK6⟩, HO⟩
  rw [wp_bind]
  iapply (part21_run KL VL c v5 v7 W₂)
  isplitl [tK7 tV6 SK7 SV6 pK7 nV6 HO]
  · isplitl [tK7 tV6]
    · isplitl [tK7]; · iexact tK7
      iexact tV6
    isplitl [SK7 SV6]
    · isplitl [SK7]; · iexact SK7
      iexact SV6
    isplitl [pK7 nV6]
    · isplitl [pK7]; · iexact pK7
      iexact nV6
    iexact HO
  iintro ⟨⟨cK7, cV6⟩, HO⟩
  beta_reduce
  ihave SV7 := (show (sendP vlM vbM c (VL c) (gath VL c) 7 : sProp 𝕄) ⊢ (held (halfW vbM 0 1 256 inb_S3x2x512x512_S1x1x512x256_0_1_0_256) c fullShare.right (gath VL c)) from .rfl) $$ SV7
  ihave pV7 := (show iprop(∃ f, recvP vbM (prv c) f 7) ⊢ iprop(∃ f, held (F := F) (halfW vbM 1 1 256 inb_S3x2x512x512_S1x1x512x256_1_1_0_256) (prv c) fullShare f) from .rfl) $$ pV7
  set_option sl_exec.stopBefore "k0_part23" in sl_exec_parts
  unfold held
  iapply (wp_send_tok KL VL c (prv c) (⟨k0_dev18 c, k0_dev18_lt c⟩ : Dev nD) (Fin.ext (k0_dev18_eq c)) (q := fullShare.right) (fs := gath VL c) (O := owed c 18) (W := W₂) 8192 (gath VL (prv c))
      rfl rfl rfl rfl rfl (landV_half VL (d := 1) (by decide) (by decide) (congrArg nxt (nxt_prv c)))) $$ [tV7 SV7 pV7 HO]
  · isplitl [tV7]; · iexact tV7
    isplitl [SV7]; · iexact SV7
    isplitl [pV7]; · iexact pV7
    iexact HO
  iintro ⟨cV7, HO⟩
  set_option sl_exec.stopBefore "k0_part31" in sl_exec_parts
  sl_seam

end Cert.Attn
-- ==== Proof.Run3.lean ====
/-
The run on: the block of the neighbour on the other side.
-/
module

public import proofs.«01_k».proof.Proof.Run2

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (KL VL : Dev nD → S2x512x512.Idx → Elt F .bf16)

variable (fx : S2x512x768.Idx → Elt F .bf16) (fw : S768x512.Idx → Elt F .bf16) (fk fv : S2x512x8x64.Idx → Elt F .bf16)
    (fo : S512x768.Idx → Elt F .bf16)

attribute [local sl_rounds] duties_dma expect_dma amount_dma payload_dma Finset.sdiff_empty

abbrev woM : Memref sig .tc .vmem S512x768 .bf16 := Memref.whole cc0_stg4_0
abbrev oM : Memref sig .tc .vmem S2x512x768 .bf16 := Memref.whole cc0_stg5_0

theorem above_last {k : ℕ} {c : Dev nD} : Above k (owed c 18) := fun g u h => absurd h (by show ¬ 0 < 0; omega)

theorem held_wo (c : Dev nD) (f) : (held woM c fullShare f : sProp 𝕄) = buf c cc0_stg4_0 f := by
  unfold held buf; rw [show (woM : Memref sig .tc .vmem S512x768 .bf16).view.set = Finset.univ from View.set_whole _]
theorem held_out (c : Dev nD) (f) : (held oM c fullShare f : sProp 𝕄) = buf c cc0_stg5_0 f := by
  unfold held buf; rw [show (oM : Memref sig .tc .vmem S2x512x768 .bf16).view.set = Finset.univ from View.set_whole _]

/-- Up to the arrivals of the first halves' keys. -/
def run₃ (c : Dev nD) (hK : KL c = k0_pay1 fk) (hV : VL c = k0_pay2 fv) (W : Waits sig Unit) (R : (S2x512x768.Idx → Elt F .bf16) → sProp 𝕄) : Σ' (G : Prop), G → (run₂ KL VL fx fw fk fv fo c hK hV W R).1 := by
  sl_stretch
  sl_resume
  unfold arr2 waitP openP
  icases Ha2 with ⟨aK4, aK5, aV4, aV5⟩
  icases aK4 with ⟨⟨⟨%κK4, #IK4⟩, PK4⟩, CK4⟩
  icases aK5 with ⟨⟨⟨%κK5, #IK5⟩, PK5⟩, CK5⟩
  icases aV4 with ⟨⟨⟨%κV4, #IV4⟩, PV4⟩, CV4⟩
  icases aV5 with ⟨⟨⟨%κV5, #IV5⟩, PV5⟩, CV5⟩
  have hmw (q : DmaSem sig) : (levAts L lv : sProp 𝕄) ⊢ MayWait (c : Thread nD τ) (.dma q) () (owed c 18) :=
    mayWait_above c (.dma q) _ (le_refl _) (owed c 18) above_last
  have mK4 : (levAts L lv : sProp 𝕄) ⊢ MayWait (c : Thread nD τ) (.dma (semAt cc0_scratch6 2 0 inb_S4x2_S1x1_2_0)) () (owed c 18) := hmw _
  have mK5 : (levAts L lv : sProp 𝕄) ⊢ MayWait (c : Thread nD τ) (.dma (semAt cc0_scratch6 2 1 inb_S4x2_S1x1_2_1)) () (owed c 18) := hmw _
  have mV4 : (levAts L lv : sProp 𝕄) ⊢ MayWait (c : Thread nD τ) (.dma (semAt cc0_scratch8 2 0 inb_S4x2_S1x1_2_0)) () (owed c 18) := hmw _
  have mV5 : (levAts L lv : sProp 𝕄) ⊢ MayWait (c : Thread nD τ) (.dma (semAt cc0_scratch8 2 1 inb_S4x2_S1x1_2_1)) () (owed c 18) := hmw _
  clear hmw
  set_option sl_exec.stopBefore "k0_part33" in sl_exec_parts
  ihave GK4 := (show (dmaPay KL VL (semAt cc0_scratch6 2 0 inb_S4x2_S1x1_2_0).val c : sProp 𝕄) ⊢ held (fullW kbM 2 0 inb_S3x2x512x512_S1x1x512x512_2_0_0_0) c fullShare (gath KL c) from .rfl) $$ PK4_pay1
  ihave GK5 := (show (dmaPay KL VL (semAt cc0_scratch6 2 1 inb_S4x2_S1x1_2_1).val c : sProp 𝕄) ⊢ held (fullW kbM 2 1 inb_S3x2x512x512_S1x1x512x512_2_1_0_0) c fullShare (gath KL c) from .rfl) $$ PK5_pay1
  ihave GV4 := (show (dmaPay KL VL (semAt cc0_scratch8 2 0 inb_S4x2_S1x1_2_0).val c : sProp 𝕄) ⊢ held (fullW vbM 2 0 inb_S3x2x512x512_S1x1x512x512_2_0_0_0) c fullShare (gath VL c) from .rfl) $$ PV4_pay1
  ihave GV5 := (show (dmaPay KL VL (semAt cc0_scratch8 2 1 inb_S4x2_S1x1_2_1).val c : sProp 𝕄) ⊢ held (fullW vbM 2 1 inb_S3x2x512x512_S1x1x512x512_2_1_0_0) c fullShare (gath VL c) from .rfl) $$ PV5_pay1
  unfold held
  clear mK4 mK5 mV4 mV5
  set_option sl_exec.stopBefore "k0_part42" in sl_exec_parts
  sl_seam

end Cert.Attn
-- ==== Proof.Run4.lean ====
/-
The run on: the block of the device opposite, its first half.
-/
module

public import proofs.«01_k».proof.Proof.Run3

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (KL VL : Dev nD → S2x512x512.Idx → Elt F .bf16)

variable (fx : S2x512x768.Idx → Elt F .bf16) (fw : S768x512.Idx → Elt F .bf16) (fk fv : S2x512x8x64.Idx → Elt F .bf16)
    (fo : S512x768.Idx → Elt F .bf16)

attribute [local sl_rounds] duties_dma expect_dma amount_dma payload_dma Finset.sdiff_empty

/-- The first halves, and the first half of the heads' output. -/
def run₄ (c : Dev nD) (hK : KL c = k0_pay1 fk) (hV : VL c = k0_pay2 fv) (W : Waits sig Unit) (R : (S2x512x768.Idx → Elt F .bf16) → sProp 𝕄) : Σ' (G : Prop), G → (run₃ KL VL fx fw fk fv fo c hK hV W R).1 := by
  sl_stretch
  sl_resume
  unfold arr1 arr3 waitP openP
  icases Ha1 with ⟨aK2, aK3, aV2, aV3⟩
  icases aK2 with ⟨⟨⟨%κK2, #IK2⟩, PK2⟩, CK2⟩
  icases aK3 with ⟨⟨⟨%κK3, #IK3⟩, PK3⟩, CK3⟩
  icases aV2 with ⟨⟨⟨%κV2, #IV2⟩, PV2⟩, CV2⟩
  icases aV3 with ⟨⟨⟨%κV3, #IV3⟩, PV3⟩, CV3⟩
  icases Ha3 with ⟨aK6, aK7, aV6, aV7⟩
  icases aK6 with ⟨⟨⟨%κK6, #IK6⟩, PK6⟩, CK6⟩
  icases aK7 with ⟨⟨⟨%κK7, #IK7⟩, PK7⟩, CK7⟩
  icases aV6 with ⟨⟨⟨%κV6, #IV6⟩, PV6⟩, CV6⟩
  icases aV7 with ⟨⟨⟨%κV7, #IV7⟩, PV7⟩, CV7⟩
  have hmw (q : DmaSem sig) : (levAts L lv : sProp 𝕄) ⊢ MayWait (c : Thread nD τ) (.dma q) () (owed c 18) :=
    mayWait_above c (.dma q) _ (le_refl _) (owed c 18) above_last
  have mK2 : (levAts L lv : sProp 𝕄) ⊢ MayWait (c : Thread nD τ) (.dma (semAt cc0_scratch6 1 0 inb_S4x2_S1x1_1_0)) () (owed c 18) := hmw _
  have mK3 : (levAts L lv : sProp 𝕄) ⊢ MayWait (c : Thread nD τ) (.dma (semAt cc0_scratch6 1 1 inb_S4x2_S1x1_1_1)) () (owed c 18) := hmw _
  have mV2 : (levAts L lv : sProp 𝕄) ⊢ MayWait (c : Thread nD τ) (.dma (semAt cc0_scratch8 1 0 inb_S4x2_S1x1_1_0)) () (owed c 18) := hmw _
  have mV3 : (levAts L lv : sProp 𝕄) ⊢ MayWait (c : Thread nD τ) (.dma (semAt cc0_scratch8 1 1 inb_S4x2_S1x1_1_1)) () (owed c 18) := hmw _
  have mK6 : (levAts L lv : sProp 𝕄) ⊢ MayWait (c : Thread nD τ) (.dma (semAt cc0_scratch6 3 0 inb_S4x2_S1x1_3_0)) () (owed c 18) := hmw _
  have mK7 : (levAts L lv : sProp 𝕄) ⊢ MayWait (c : Thread nD τ) (.dma (semAt cc0_scratch6 3 1 inb_S4x2_S1x1_3_1)) () (owed c 18) := hmw _
  have mV6 : (levAts L lv : sProp 𝕄) ⊢ MayWait (c : Thread nD τ) (.dma (semAt cc0_scratch8 3 0 inb_S4x2_S1x1_3_0)) () (owed c 18) := hmw _
  have mV7 : (levAts L lv : sProp 𝕄) ⊢ MayWait (c : Thread nD τ) (.dma (semAt cc0_scratch8 3 1 inb_S4x2_S1x1_3_1)) () (owed c 18) := hmw _
  clear hmw
  ihave Ho := (Entails.of_eq (held_wo c fo).symm) $$ Ho
  ihave H5 := (Entails.of_eq (held_out c f5).symm) $$ H5
  set_option sl_exec.stopBefore "k0_part50" in sl_exec_parts
  ihave GK2 := (show (dmaPay KL VL (semAt cc0_scratch6 1 0 inb_S4x2_S1x1_1_0).val c : sProp 𝕄) ⊢ held (halfW kbM 1 0 0 inb_S3x2x512x512_S1x1x512x256_1_0_0_0) c fullShare (gath KL c) from .rfl) $$ PK2_pay1
  ihave GK3 := (show (dmaPay KL VL (semAt cc0_scratch6 1 1 inb_S4x2_S1x1_1_1).val c : sProp 𝕄) ⊢ held (halfW kbM 1 1 0 inb_S3x2x512x512_S1x1x512x256_1_1_0_0) c fullShare (gath KL c) from .rfl) $$ PK3_pay1
  unfold held
  set_option sl_exec.stopBefore "k0_part50" in sl_exec_parts
  ihave GV2 := (show (dmaPay KL VL (semAt cc0_scratch8 1 0 inb_S4x2_S1x1_1_0).val c : sProp 𝕄) ⊢ held (halfW vbM 1 0 0 inb_S3x2x512x512_S1x1x512x256_1_0_0_0) c fullShare (gath VL c) from .rfl) $$ PV2_pay1
  ihave GV3 := (show (dmaPay KL VL (semAt cc0_scratch8 1 1 inb_S4x2_S1x1_1_1).val c : sProp 𝕄) ⊢ held (halfW vbM 1 1 0 inb_S3x2x512x512_S1x1x512x256_1_1_0_0) c fullShare (gath VL c) from .rfl) $$ PV3_pay1
  unfold held
  set_option sl_exec.stopBefore "k0_part50" in sl_exec_parts

  clear mK2 mK3 mV2 mV3
  sl_seam

end Cert.Attn
-- ==== Proof.Run5.lean ====
/-
The run on: the second half of the block of the device opposite, and the output.
-/
module

public import proofs.«01_k».proof.Proof.Run4

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (KL VL : Dev nD → S2x512x512.Idx → Elt F .bf16)

variable (fx : S2x512x768.Idx → Elt F .bf16) (fw : S768x512.Idx → Elt F .bf16) (fk fv : S2x512x8x64.Idx → Elt F .bf16)
    (fo : S512x768.Idx → Elt F .bf16)

attribute [local sl_rounds] duties_dma expect_dma amount_dma payload_dma Finset.sdiff_empty

/-- The second halves, and the whole output. -/
def run₅ (c : Dev nD) (hK : KL c = k0_pay1 fk) (hV : VL c = k0_pay2 fv) (W : Waits sig Unit) (R : (S2x512x768.Idx → Elt F .bf16) → sProp 𝕄) : Σ' (G : Prop), G → (run₄ KL VL fx fw fk fv fo c hK hV W R).1 := by
  sl_stretch
  sl_resume
  set_option sl_exec.stopBefore "k0_part58" in sl_exec_parts
  ihave GK6 := (show (dmaPay KL VL (semAt cc0_scratch6 3 0 inb_S4x2_S1x1_3_0).val c : sProp 𝕄) ⊢ held (halfW kbM 1 0 256 inb_S3x2x512x512_S1x1x512x256_1_0_0_256) c fullShare (gath KL c) from .rfl) $$ PK6_pay1
  ihave GK7 := (show (dmaPay KL VL (semAt cc0_scratch6 3 1 inb_S4x2_S1x1_3_1).val c : sProp 𝕄) ⊢ held (halfW kbM 1 1 256 inb_S3x2x512x512_S1x1x512x256_1_1_0_256) c fullShare (gath KL c) from .rfl) $$ PK7_pay1
  unfold held
  set_option sl_exec.stopBefore "k0_part58" in sl_exec_parts
  ihave GV6 := (show (dmaPay KL VL (semAt cc0_scratch8 3 0 inb_S4x2_S1x1_3_0).val c : sProp 𝕄) ⊢ held (halfW vbM 1 0 256 inb_S3x2x512x512_S1x1x512x256_1_0_0_256) c fullShare (gath VL c) from .rfl) $$ PV6_pay1
  ihave GV7 := (show (dmaPay KL VL (semAt cc0_scratch8 3 1 inb_S4x2_S1x1_3_1).val c : sProp 𝕄) ⊢ held (halfW vbM 1 1 256 inb_S3x2x512x512_S1x1x512x256_1_1_0_256) c fullShare (gath VL c) from .rfl) $$ PV7_pay1
  unfold held
  set_option sl_exec.stopBefore "k0_part58" in sl_exec_parts

  clear mK6 mK7 mV6 mV7
  sl_seam

end Cert.Attn
-- ==== Proof.Finish.lean ====
/-
The end of the body: shares and windows back together, the semaphore cells closed.
-/
module

public import proofs.«01_k».proof.Proof.Run3

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (KL VL : Dev nD → S2x512x512.Idx → Elt F .bf16)

variable (fx : S2x512x768.Idx → Elt F .bf16) (fw : S768x512.Idx → Elt F .bf16) (fk fv : S2x512x8x64.Idx → Elt F .bf16)
    (fo : S512x768.Idx → Elt F .bf16)

attribute [local sl_rounds] duties_dma expect_dma amount_dma payload_dma Finset.sdiff_empty

/-- The transfer semaphore number `k` of the kernel's own. -/
def cellNo (k : Fin 32) : DmaSem sig := ⟨6 + k.val, by have := k.isLt; show _ < 38; omega⟩

/-- Every transfer cell of a device after its wait, in the order of their numbers. -/
def doneAll (c : Dev nD) : sProp 𝕄 :=
  iprop(doneP KL VL c (semAt cc0_scratch5 0 0 inb_S4x2_S1x1_0_0)
    ∗ doneP KL VL c (semAt cc0_scratch5 0 1 inb_S4x2_S1x1_0_1)
    ∗ doneP KL VL c (semAt cc0_scratch5 1 0 inb_S4x2_S1x1_1_0)
    ∗ doneP KL VL c (semAt cc0_scratch5 1 1 inb_S4x2_S1x1_1_1)
    ∗ doneP KL VL c (semAt cc0_scratch5 2 0 inb_S4x2_S1x1_2_0)
    ∗ doneP KL VL c (semAt cc0_scratch5 2 1 inb_S4x2_S1x1_2_1)
    ∗ doneP KL VL c (semAt cc0_scratch5 3 0 inb_S4x2_S1x1_3_0)
    ∗ doneP KL VL c (semAt cc0_scratch5 3 1 inb_S4x2_S1x1_3_1)
    ∗ doneP KL VL c (semAt cc0_scratch6 0 0 inb_S4x2_S1x1_0_0)
    ∗ doneP KL VL c (semAt cc0_scratch6 0 1 inb_S4x2_S1x1_0_1)
    ∗ doneP KL VL c (semAt cc0_scratch6 1 0 inb_S4x2_S1x1_1_0)
    ∗ doneP KL VL c (semAt cc0_scratch6 1 1 inb_S4x2_S1x1_1_1)
    ∗ doneP KL VL c (semAt cc0_scratch6 2 0 inb_S4x2_S1x1_2_0)
    ∗ doneP KL VL c (semAt cc0_scratch6 2 1 inb_S4x2_S1x1_2_1)
    ∗ doneP KL VL c (semAt cc0_scratch6 3 0 inb_S4x2_S1x1_3_0)
    ∗ doneP KL VL c (semAt cc0_scratch6 3 1 inb_S4x2_S1x1_3_1)
    ∗ doneP KL VL c (semAt cc0_scratch7 0 0 inb_S4x2_S1x1_0_0)
    ∗ doneP KL VL c (semAt cc0_scratch7 0 1 inb_S4x2_S1x1_0_1)
    ∗ doneP KL VL c (semAt cc0_scratch7 1 0 inb_S4x2_S1x1_1_0)
    ∗ doneP KL VL c (semAt cc0_scratch7 1 1 inb_S4x2_S1x1_1_1)
    ∗ doneP KL VL c (semAt cc0_scratch7 2 0 inb_S4x2_S1x1_2_0)
    ∗ doneP KL VL c (semAt cc0_scratch7 2 1 inb_S4x2_S1x1_2_1)
    ∗ doneP KL VL c (semAt cc0_scratch7 3 0 inb_S4x2_S1x1_3_0)
    ∗ doneP KL VL c (semAt cc0_scratch7 3 1 inb_S4x2_S1x1_3_1)
    ∗ doneP KL VL c (semAt cc0_scratch8 0 0 inb_S4x2_S1x1_0_0)
    ∗ doneP KL VL c (semAt cc0_scratch8 0 1 inb_S4x2_S1x1_0_1)
    ∗ doneP KL VL c (semAt cc0_scratch8 1 0 inb_S4x2_S1x1_1_0)
    ∗ doneP KL VL c (semAt cc0_scratch8 1 1 inb_S4x2_S1x1_1_1)
    ∗ doneP KL VL c (semAt cc0_scratch8 2 0 inb_S4x2_S1x1_2_0)
    ∗ doneP KL VL c (semAt cc0_scratch8 2 1 inb_S4x2_S1x1_2_1)
    ∗ doneP KL VL c (semAt cc0_scratch8 3 0 inb_S4x2_S1x1_3_0)
    ∗ doneP KL VL c (semAt cc0_scratch8 3 1 inb_S4x2_S1x1_3_1))

theorem doneAll_eq (c : Dev nD) : (doneAll KL VL c : sProp 𝕄) = bigSep Finset.univ fun k : Fin 32 => doneP KL VL c (cellNo k) := by
  rw [bigSep_univ_eq_bigSepL [0, 1, 2, 3, 4, 5, 6, 7, 8, 9, 10, 11, 12, 13, 14, 15, 16, 17, 18, 19, 20, 21, 22, 23, 24, 25, 26, 27, 28, 29, 30, 31] (by decide) (by decide)]
  rfl

theorem close_one (c : Dev nD) (q : DmaSem sig) : (doneP KL VL c q : sProp 𝕄) ⊢ |={Set.univ}=> semVal (dmaCell c q) 0 := by
  unfold doneP
  iintro ⟨⟨%κ, HI⟩, Hat⟩
  iapply (Rounds.cell_close ER (Rd KL VL) (Set.mem_univ κ) (fun h => h) (R := 0 + 1) (duties_later KL VL (dmaCell c q)))
  isplitl [HI] <;> iassumption

/-- The transfer cells close together: their counters at zero. -/
theorem close_all (c : Dev nD) : (doneAll KL VL c : sProp 𝕄) ⊢ |={Set.univ}=> bigSep Finset.univ fun k : Fin 32 => semVal (dmaCell c (cellNo k)) 0 := by
  rw [doneAll_eq]
  exact (bigSep_mono fun k _ => close_one KL VL c (cellNo k)).trans (bigSep_fupd _ _)

/-- A local block, its shares back. -/
theorem join_LB (Ml : Memref sig .tc .vmem S2x512x512 .bf16) (M : Memref sig .tc .vmem S3x2x512x512 .bf16) (c : Dev nD)
    (fl : Buf (Elt F) (Ml.view.loc (c : Thread nD τ))) (f : Buf (Elt F) (M.view.loc (c : Thread nD τ))) :
    iprop(held Ml c fullShare.left fl ∗ sendP Ml M c fl f 0 ∗ sendP Ml M c fl f 1 ∗ sendP Ml M c fl f 4 ∗ sendP Ml M c fl f 5) ⊢ (held Ml c fullShare fl : sProp 𝕄) := by
  simp only [sendP]
  iintro ⟨Hl, H0, H1, H4, H5⟩
  ihave H0 := (pointsTo_share (PosShare.mem_left_op_right fullShare.right)).2 $$ [H0 H4]
  · isplitl [H0] <;> iassumption
  ihave H1 := (pointsTo_share (PosShare.mem_left_op_right fullShare.right)).2 $$ [H1 H5]
  · isplitl [H1] <;> iassumption
  iapply (pointsTo_share (PosShare.mem_left_op_right fullShare)).2
  isplitl [Hl]; · iexact Hl
  iapply (Entails.of_eq (split_loc Ml c fullShare.right fl).symm)
  isplitl [H0] <;> iassumption

/-- The gathered slots, their windows and shares back. -/
theorem join_recv (Ml : Memref sig .tc .vmem S2x512x512 .bf16) (M : Memref sig .tc .vmem S3x2x512x512 .bf16) (c : Dev nD)
    (fl : Buf (Elt F) (Ml.view.loc (c : Thread nD τ))) (f : Buf (Elt F) (M.view.loc (c : Thread nD τ))) :
    iprop((held (fullW M 0 0 inb_S3x2x512x512_S1x1x512x512_0_0_0_0) c fullShare.left f ∗ sendP Ml M c fl f 2 ∗ sendP Ml M c fl f 6)
      ∗ (held (fullW M 0 1 inb_S3x2x512x512_S1x1x512x512_0_1_0_0) c fullShare.left f ∗ sendP Ml M c fl f 3 ∗ sendP Ml M c fl f 7)
      ∗ recvP M c f 2 ∗ recvP M c f 3 ∗ recvP M c f 4 ∗ recvP M c f 5 ∗ recvP M c f 6 ∗ recvP M c f 7) ⊢ (held M c fullShare f : sProp 𝕄) := by
  iintro ⟨H0, H1, H⟩
  ihave H0 := (split_slot0 Ml M c fl f).2 $$ H0
  ihave H1 := (split_slot1 Ml M c fl f).2 $$ H1
  iapply (Entails.of_eq (split_win M c f).symm)
  isplitl [H0]; · iexact H0
  isplitl [H1]; · iexact H1
  iexact H

theorem join_slots (Ml : Memref sig .tc .vmem S2x512x512 .bf16) (M : Memref sig .tc .vmem S3x2x512x512 .bf16) (c : Dev nD)
    (fl : Buf (Elt F) (Ml.view.loc (c : Thread nD τ))) (f : Buf (Elt F) (M.view.loc (c : Thread nD τ))) :
    iprop((held (fullW M 0 0 inb_S3x2x512x512_S1x1x512x512_0_0_0_0) c fullShare.left f ∗ sendP Ml M c fl f 2 ∗ sendP Ml M c fl f 6)
      ∗ (held (fullW M 0 1 inb_S3x2x512x512_S1x1x512x512_0_1_0_0) c fullShare.left f ∗ sendP Ml M c fl f 3 ∗ sendP Ml M c fl f 7)
      ∗ held (halfW M 1 0 0 inb_S3x2x512x512_S1x1x512x256_1_0_0_0) c fullShare f ∗ held (halfW M 1 1 0 inb_S3x2x512x512_S1x1x512x256_1_1_0_0) c fullShare f
      ∗ held (fullW M 2 0 inb_S3x2x512x512_S1x1x512x512_2_0_0_0) c fullShare f ∗ held (fullW M 2 1 inb_S3x2x512x512_S1x1x512x512_2_1_0_0) c fullShare f
      ∗ held (halfW M 1 0 256 inb_S3x2x512x512_S1x1x512x256_1_0_0_256) c fullShare f
      ∗ held (halfW M 1 1 256 inb_S3x2x512x512_S1x1x512x256_1_1_0_256) c fullShare f) ⊢ (held M c fullShare f : sProp 𝕄) :=
  join_recv Ml M c fl f

/-- What a device holds when its body ends, `f` the output. -/
def endP (c : Dev nD) (f : S2x512x768.Idx → Elt F .bf16) : sProp 𝕄 :=
  iprop(argsP c fx fw fk fv fo ∗ scratchP c ∗ buf c cc0_stg5_0 f
    ∗ (bigSep Finset.univ fun k : Fin 32 => semVal (dmaCell c (cellNo k)) 0) ∗ semVal (barCell c) 0 ∗ ∃ W, owes (c : Thread nD τ) 0 W)

end Cert.Attn
-- ==== Proof.Run6.lean ====
/-
The waits for the departures.
-/
module

public import proofs.«01_k».proof.Proof.Run5
public import proofs.«01_k».proof.Proof.Finish

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (KL VL : Dev nD → S2x512x512.Idx → Elt F .bf16)

variable (fx : S2x512x768.Idx → Elt F .bf16) (fw : S768x512.Idx → Elt F .bf16) (fk fv : S2x512x8x64.Idx → Elt F .bf16)
    (fo : S512x768.Idx → Elt F .bf16)

attribute [local sl_rounds] duties_dma expect_dma amount_dma payload_dma Finset.sdiff_empty

theorem done_intro (c : Dev nD) {κ : ℕ} {q : DmaSem sig} : iprop(cellInv ER (Rd KL VL) κ (dmaCell c q) ∗ atPos ER (dmaCell c q) 1 ∅ 0) ⊢ doneP KL VL c q := by
  unfold doneP
  iintro ⟨HI, Hat⟩
  isplitl [HI]
  · iexists κ; iexact HI
  iexact Hat

/-- The output the body leaves, as the writes of its two batches. -/
def OutIs (c : Dev nD) (f : S2x512x768.Idx → Elt F .bf16) : Prop :=
  ∃ f5 : S2x512x768.Idx → Elt F .bf16, f = oM.view.writes (Elt F) f5
      (⟨Rect.unit (s := S2x512x768) ![1, 0, 0] S1x512x768.size inb_S2x512x768_S1x512x768_1_0_0,
          k0_pay293 (View.readAt (Elt F) woM.view (Rect.unit (s := S512x768) ![256, 0] S256x768.size inb_S512x768_S256x768_256_0).toLoadRect fo)
            (run₅.sl.v1722 KL VL fx fw c) (run₅.sl.v1726 KL VL fx fw fo c)⟩ ::
        run₅.sl.H5_3 KL VL fx fw fo c)

/-- The waits for the departures, and the end. -/
theorem run₆ (c : Dev nD) (hK : KL c = k0_pay1 fk) (hV : VL c = k0_pay2 fv) (W : Waits sig Unit) (R : (S2x512x768.Idx → Elt F .bf16) → sProp 𝕄)
    (hR : ∀ f, OutIs KL VL fx fw fo c f → (endP fx fw fk fv fo c f ⊢ R f)) : (run₅ KL VL fx fw fk fv fo c hK hV W R).1 := by
  sl_resume
  unfold depsFull depsHalf openP
  icases HdF with ⟨dK0, dK1, dK4, dK5, dV0, dV1, dV4, dV5⟩
  icases dK0 with ⟨⟨%σK0, #JK0⟩, DK0⟩
  icases dK1 with ⟨⟨%σK1, #JK1⟩, DK1⟩
  icases dK4 with ⟨⟨%σK4, #JK4⟩, DK4⟩
  icases dK5 with ⟨⟨%σK5, #JK5⟩, DK5⟩
  icases dV0 with ⟨⟨%σV0, #JV0⟩, DV0⟩
  icases dV1 with ⟨⟨%σV1, #JV1⟩, DV1⟩
  icases dV4 with ⟨⟨%σV4, #JV4⟩, DV4⟩
  icases dV5 with ⟨⟨%σV5, #JV5⟩, DV5⟩
  icases HdH with ⟨dK2, dK3, dV2, dV3, dK6, dK7, dV6, dV7⟩
  icases dK2 with ⟨⟨%σK2, #JK2⟩, DK2⟩
  icases dK3 with ⟨⟨%σK3, #JK3⟩, DK3⟩
  icases dV2 with ⟨⟨%σV2, #JV2⟩, DV2⟩
  icases dV3 with ⟨⟨%σV3, #JV3⟩, DV3⟩
  icases dK6 with ⟨⟨%σK6, #JK6⟩, DK6⟩
  icases dK7 with ⟨⟨%σK7, #JK7⟩, DK7⟩
  icases dV6 with ⟨⟨%σV6, #JV6⟩, DV6⟩
  icases dV7 with ⟨⟨%σV7, #JV7⟩, DV7⟩
  have hmw (q : DmaSem sig) : (levAts L lv : sProp 𝕄) ⊢ MayWait (c : Thread nD τ) (.dma q) () (owed c 18) :=
    mayWait_above c (.dma q) _ (le_refl _) (owed c 18) above_last
  have mK0 : (levAts L lv : sProp 𝕄) ⊢ MayWait (c : Thread nD τ) (.dma (semAt cc0_scratch5 0 0 inb_S4x2_S1x1_0_0)) () (owed c 18) := hmw _
  have mK1 : (levAts L lv : sProp 𝕄) ⊢ MayWait (c : Thread nD τ) (.dma (semAt cc0_scratch5 0 1 inb_S4x2_S1x1_0_1)) () (owed c 18) := hmw _
  have mV0 : (levAts L lv : sProp 𝕄) ⊢ MayWait (c : Thread nD τ) (.dma (semAt cc0_scratch7 0 0 inb_S4x2_S1x1_0_0)) () (owed c 18) := hmw _
  have mV1 : (levAts L lv : sProp 𝕄) ⊢ MayWait (c : Thread nD τ) (.dma (semAt cc0_scratch7 0 1 inb_S4x2_S1x1_0_1)) () (owed c 18) := hmw _
  have mK4 : (levAts L lv : sProp 𝕄) ⊢ MayWait (c : Thread nD τ) (.dma (semAt cc0_scratch5 2 0 inb_S4x2_S1x1_2_0)) () (owed c 18) := hmw _
  have mK5 : (levAts L lv : sProp 𝕄) ⊢ MayWait (c : Thread nD τ) (.dma (semAt cc0_scratch5 2 1 inb_S4x2_S1x1_2_1)) () (owed c 18) := hmw _
  have mV4 : (levAts L lv : sProp 𝕄) ⊢ MayWait (c : Thread nD τ) (.dma (semAt cc0_scratch7 2 0 inb_S4x2_S1x1_2_0)) () (owed c 18) := hmw _
  have mV5 : (levAts L lv : sProp 𝕄) ⊢ MayWait (c : Thread nD τ) (.dma (semAt cc0_scratch7 2 1 inb_S4x2_S1x1_2_1)) () (owed c 18) := hmw _
  have mK2 : (levAts L lv : sProp 𝕄) ⊢ MayWait (c : Thread nD τ) (.dma (semAt cc0_scratch5 1 0 inb_S4x2_S1x1_1_0)) () (owed c 18) := hmw _
  have mK3 : (levAts L lv : sProp 𝕄) ⊢ MayWait (c : Thread nD τ) (.dma (semAt cc0_scratch5 1 1 inb_S4x2_S1x1_1_1)) () (owed c 18) := hmw _
  have mV2 : (levAts L lv : sProp 𝕄) ⊢ MayWait (c : Thread nD τ) (.dma (semAt cc0_scratch7 1 0 inb_S4x2_S1x1_1_0)) () (owed c 18) := hmw _
  have mV3 : (levAts L lv : sProp 𝕄) ⊢ MayWait (c : Thread nD τ) (.dma (semAt cc0_scratch7 1 1 inb_S4x2_S1x1_1_1)) () (owed c 18) := hmw _
  have mK6 : (levAts L lv : sProp 𝕄) ⊢ MayWait (c : Thread nD τ) (.dma (semAt cc0_scratch5 3 0 inb_S4x2_S1x1_3_0)) () (owed c 18) := hmw _
  have mK7 : (levAts L lv : sProp 𝕄) ⊢ MayWait (c : Thread nD τ) (.dma (semAt cc0_scratch5 3 1 inb_S4x2_S1x1_3_1)) () (owed c 18) := hmw _
  have mV6 : (levAts L lv : sProp 𝕄) ⊢ MayWait (c : Thread nD τ) (.dma (semAt cc0_scratch7 3 0 inb_S4x2_S1x1_3_0)) () (owed c 18) := hmw _
  have mV7 : (levAts L lv : sProp 𝕄) ⊢ MayWait (c : Thread nD τ) (.dma (semAt cc0_scratch7 3 1 inb_S4x2_S1x1_3_1)) () (owed c 18) := hmw _
  clear hmw
  sl_exec_parts
  clear mK0 mK1 mV0 mV1 mK4 mK5 mV4 mV5 mK2 mK3 mV2 mV3 mK6 mK7 mV6 mV7
  rw [wp_ret]
  ihave TK0 := (show (dmaPay KL VL (semAt cc0_scratch5 0 0 inb_S4x2_S1x1_0_0).val c : sProp 𝕄) ⊢ sendP klM kbM c (KL c) (gath KL c) 0 from .rfl) $$ DK0_pay1
  ihave TK1 := (show (dmaPay KL VL (semAt cc0_scratch5 0 1 inb_S4x2_S1x1_0_1).val c : sProp 𝕄) ⊢ sendP klM kbM c (KL c) (gath KL c) 1 from .rfl) $$ DK1_pay1
  ihave TV0 := (show (dmaPay KL VL (semAt cc0_scratch7 0 0 inb_S4x2_S1x1_0_0).val c : sProp 𝕄) ⊢ sendP vlM vbM c (VL c) (gath VL c) 0 from .rfl) $$ DV0_pay1
  ihave TV1 := (show (dmaPay KL VL (semAt cc0_scratch7 0 1 inb_S4x2_S1x1_0_1).val c : sProp 𝕄) ⊢ sendP vlM vbM c (VL c) (gath VL c) 1 from .rfl) $$ DV1_pay1
  ihave TK4 := (show (dmaPay KL VL (semAt cc0_scratch5 2 0 inb_S4x2_S1x1_2_0).val c : sProp 𝕄) ⊢ sendP klM kbM c (KL c) (gath KL c) 4 from .rfl) $$ DK4_pay1
  ihave TK5 := (show (dmaPay KL VL (semAt cc0_scratch5 2 1 inb_S4x2_S1x1_2_1).val c : sProp 𝕄) ⊢ sendP klM kbM c (KL c) (gath KL c) 5 from .rfl) $$ DK5_pay1
  ihave TV4 := (show (dmaPay KL VL (semAt cc0_scratch7 2 0 inb_S4x2_S1x1_2_0).val c : sProp 𝕄) ⊢ sendP vlM vbM c (VL c) (gath VL c) 4 from .rfl) $$ DV4_pay1
  ihave TV5 := (show (dmaPay KL VL (semAt cc0_scratch7 2 1 inb_S4x2_S1x1_2_1).val c : sProp 𝕄) ⊢ sendP vlM vbM c (VL c) (gath VL c) 5 from .rfl) $$ DV5_pay1
  ihave TK2 := (show (dmaPay KL VL (semAt cc0_scratch5 1 0 inb_S4x2_S1x1_1_0).val c : sProp 𝕄) ⊢ sendP klM kbM c (KL c) (gath KL c) 2 from .rfl) $$ DK2_pay1
  ihave TK3 := (show (dmaPay KL VL (semAt cc0_scratch5 1 1 inb_S4x2_S1x1_1_1).val c : sProp 𝕄) ⊢ sendP klM kbM c (KL c) (gath KL c) 3 from .rfl) $$ DK3_pay1
  ihave TV2 := (show (dmaPay KL VL (semAt cc0_scratch7 1 0 inb_S4x2_S1x1_1_0).val c : sProp 𝕄) ⊢ sendP vlM vbM c (VL c) (gath VL c) 2 from .rfl) $$ DV2_pay1
  ihave TV3 := (show (dmaPay KL VL (semAt cc0_scratch7 1 1 inb_S4x2_S1x1_1_1).val c : sProp 𝕄) ⊢ sendP vlM vbM c (VL c) (gath VL c) 3 from .rfl) $$ DV3_pay1
  ihave TK6 := (show (dmaPay KL VL (semAt cc0_scratch5 3 0 inb_S4x2_S1x1_3_0).val c : sProp 𝕄) ⊢ sendP klM kbM c (KL c) (gath KL c) 6 from .rfl) $$ DK6_pay1
  ihave TK7 := (show (dmaPay KL VL (semAt cc0_scratch5 3 1 inb_S4x2_S1x1_3_1).val c : sProp 𝕄) ⊢ sendP klM kbM c (KL c) (gath KL c) 7 from .rfl) $$ DK7_pay1
  ihave TV6 := (show (dmaPay KL VL (semAt cc0_scratch7 3 0 inb_S4x2_S1x1_3_0).val c : sProp 𝕄) ⊢ sendP vlM vbM c (VL c) (gath VL c) 6 from .rfl) $$ DV6_pay1
  ihave TV7 := (show (dmaPay KL VL (semAt cc0_scratch7 3 1 inb_S4x2_S1x1_3_1).val c : sProp 𝕄) ⊢ sendP vlM vbM c (VL c) (gath VL c) 7 from .rfl) $$ DV7_pay1
  ihave H6 := (join_LB klM kbM c (KL c) (gath KL c)) $$ [H6 TK0 TK1 TK4 TK5]
  · isplitl [H6]; · iexact H6
    isplitl [TK0]; · iexact TK0
    isplitl [TK1]; · iexact TK1
    isplitl [TK4]; · iexact TK4
    iexact TK5
  ihave H7 := (join_LB vlM vbM c (VL c) (gath VL c)) $$ [H7 TV0 TV1 TV4 TV5]
  · isplitl [H7]; · iexact H7
    isplitl [TV0]; · iexact TV0
    isplitl [TV1]; · iexact TV1
    isplitl [TV4]; · iexact TV4
    iexact TV5
  ihave H8 := (join_slots klM kbM c (KL c) (gath KL c)) $$ [GK0 TK2 TK6 GK1 TK3 TK7 GK2 GK3 GK4 GK5 GK6 GK7]
  · isplitl [GK0 TK2 TK6]
    · isplitl [GK0]; · iexact GK0
      isplitl [TK2]; · iexact TK2
      iexact TK6
    isplitl [GK1 TK3 TK7]
    · isplitl [GK1]; · iexact GK1
      isplitl [TK3]; · iexact TK3
      iexact TK7
    isplitl [GK2]; · iexact GK2
    isplitl [GK3]; · iexact GK3
    isplitl [GK4]; · iexact GK4
    isplitl [GK5]; · iexact GK5
    isplitl [GK6]; · iexact GK6
    iexact GK7
  ihave H9 := (join_slots vlM vbM c (VL c) (gath VL c)) $$ [GV0 TV2 TV6 GV1 TV3 TV7 GV2 GV3 GV4 GV5 GV6 GV7]
  · isplitl [GV0 TV2 TV6]
    · isplitl [GV0]; · iexact GV0
      isplitl [TV2]; · iexact TV2
      iexact TV6
    isplitl [GV1 TV3 TV7]
    · isplitl [GV1]; · iexact GV1
      isplitl [TV3]; · iexact TV3
      iexact TV7
    isplitl [GV2]; · iexact GV2
    isplitl [GV3]; · iexact GV3
    isplitl [GV4]; · iexact GV4
    isplitl [GV5]; · iexact GV5
    isplitl [GV6]; · iexact GV6
    iexact GV7
  ihave H6 := (Entails.of_eq (held_kl c (KL c))) $$ H6
  ihave H7 := (Entails.of_eq (held_vl c (VL c))) $$ H7
  ihave H8 := (Entails.of_eq (held_kb c (gath KL c))) $$ H8
  ihave H9 := (Entails.of_eq (held_vb c (gath VL c))) $$ H9
  ihave H10 := (Entails.of_eq (held_q c _)) $$ H10
  ihave Ho := (Entails.of_eq (held_wo c fo)) $$ Ho
  ihave H5 := (Entails.of_eq (held_out c _)) $$ H5
  imod (close_all KL VL c) $$ [DK0 DK1 DK2 DK3 DK4 DK5 DK6 DK7 PK0 PK1 PK2 PK3 PK4 PK5 PK6 PK7 DV0 DV1 DV2 DV3 DV4 DV5 DV6 DV7 PV0 PV1 PV2 PV3 PV4 PV5 PV6 PV7] with HZ
  · unfold doneAll
    isplitl [DK0]
    · iapply (done_intro KL VL c); isplitr; · iexact JK0
      iexact DK0
    isplitl [DK1]
    · iapply (done_intro KL VL c); isplitr; · iexact JK1
      iexact DK1
    isplitl [DK2]
    · iapply (done_intro KL VL c); isplitr; · iexact JK2
      iexact DK2
    isplitl [DK3]
    · iapply (done_intro KL VL c); isplitr; · iexact JK3
      iexact DK3
    isplitl [DK4]
    · iapply (done_intro KL VL c); isplitr; · iexact JK4
      iexact DK4
    isplitl [DK5]
    · iapply (done_intro KL VL c); isplitr; · iexact JK5
      iexact DK5
    isplitl [DK6]
    · iapply (done_intro KL VL c); isplitr; · iexact JK6
      iexact DK6
    isplitl [DK7]
    · iapply (done_intro KL VL c); isplitr; · iexact JK7
      iexact DK7
    isplitl [PK0]
    · iapply (done_intro KL VL c); isplitr; · iexact IK0
      iexact PK0
    isplitl [PK1]
    · iapply (done_intro KL VL c); isplitr; · iexact IK1
      iexact PK1
    isplitl [PK2]
    · iapply (done_intro KL VL c); isplitr; · iexact IK2
      iexact PK2
    isplitl [PK3]
    · iapply (done_intro KL VL c); isplitr; · iexact IK3
      iexact PK3
    isplitl [PK4]
    · iapply (done_intro KL VL c); isplitr; · iexact IK4
      iexact PK4
    isplitl [PK5]
    · iapply (done_intro KL VL c); isplitr; · iexact IK5
      iexact PK5
    isplitl [PK6]
    · iapply (done_intro KL VL c); isplitr; · iexact IK6
      iexact PK6
    isplitl [PK7]
    · iapply (done_intro KL VL c); isplitr; · iexact IK7
      iexact PK7
    isplitl [DV0]
    · iapply (done_intro KL VL c); isplitr; · iexact JV0
      iexact DV0
    isplitl [DV1]
    · iapply (done_intro KL VL c); isplitr; · iexact JV1
      iexact DV1
    isplitl [DV2]
    · iapply (done_intro KL VL c); isplitr; · iexact JV2
      iexact DV2
    isplitl [DV3]
    · iapply (done_intro KL VL c); isplitr; · iexact JV3
      iexact DV3
    isplitl [DV4]
    · iapply (done_intro KL VL c); isplitr; · iexact JV4
      iexact DV4
    isplitl [DV5]
    · iapply (done_intro KL VL c); isplitr; · iexact JV5
      iexact DV5
    isplitl [DV6]
    · iapply (done_intro KL VL c); isplitr; · iexact JV6
      iexact DV6
    isplitl [DV7]
    · iapply (done_intro KL VL c); isplitr; · iexact JV7
      iexact DV7
    isplitl [PV0]
    · iapply (done_intro KL VL c); isplitr; · iexact IV0
      iexact PV0
    isplitl [PV1]
    · iapply (done_intro KL VL c); isplitr; · iexact IV1
      iexact PV1
    isplitl [PV2]
    · iapply (done_intro KL VL c); isplitr; · iexact IV2
      iexact PV2
    isplitl [PV3]
    · iapply (done_intro KL VL c); isplitr; · iexact IV3
      iexact PV3
    isplitl [PV4]
    · iapply (done_intro KL VL c); isplitr; · iexact IV4
      iexact PV4
    isplitl [PV5]
    · iapply (done_intro KL VL c); isplitr; · iexact IV5
      iexact PV5
    isplitl [PV6]
    · iapply (done_intro KL VL c); isplitr; · iexact IV6
      iexact PV6
    iapply (done_intro KL VL c); isplitr; · iexact IV7
    iexact PV7
  imod (Rounds.cell_close ER (Rd KL VL) (Set.mem_univ κB) (fun h => h) (R := 0 + 1) (duties_later KL VL (barCell c))) $$ [Hbar] with HB
  · isplitr; · iexact IB
    iexact Hbar
  imodintro
  iapply HR
  iapply (hR _ ⟨f5, rfl⟩)
  unfold endP argsP scratchP
  isplitl [Hx Hw Hk Hv Ho]
  · isplitl [Hx]; · iexact Hx
    isplitl [Hw]; · iexact Hw
    isplitl [Hk]; · iexact Hk
    isplitl [Hv]; · iexact Hv
    iexact Ho
  isplitl [H6 H7 H8 H9 H10]
  · isplitl [H6]; · iexists (KL c); iexact H6
    isplitl [H7]; · iexists (VL c); iexact H7
    isplitl [H8]; · iexists (gath KL c); iexact H8
    isplitl [H9]; · iexists (gath VL c); iexact H9
    iexists _; iexact H10
  isplitl [H5]; · iexact H5
  isplitl [HZ]; · iexact HZ
  isplitl [HB]; · iexact HB
  iexists _; iexact HO

/-- The body of the kernel on a device. -/
theorem body_run (c : Dev nD) (hK : KL c = k0_pay1 fk) (hV : VL c = k0_pay2 fv) (W : Waits sig Unit) (R : (S2x512x768.Idx → Elt F .bf16) → sProp 𝕄)
    (hR : ∀ f, OutIs KL VL fx fw fo c f → (endP fx fw fk fv fo c f ⊢ R f)) (Kt : PUnit → sProp 𝕄) :
    iprop(startP KL VL c ∗ scratchP c ∗ argsP c fx fw fk fv fo ∗ (∃ f : S2x512x768.Idx → Elt F .bf16, buf c cc0_stg5_0 f)
        ∗ owes (c : Thread nD τ) (owed c 0) W ∗ (∀ f, R f -∗ Kt ⟨⟩))
      ⊢ wp frame (wpE (defs₀ (F := F)) 𝒱₀ (c : Thread nD τ) none) Set.univ (atBufs (cc0_body (F := F))) Kt :=
  (run₁ KL VL fx fw fk fv fo c hK hV W R).2 ((run₂ KL VL fx fw fk fv fo c hK hV W R).2 ((run₃ KL VL fx fw fk fv fo c hK hV W R).2 ((run₄ KL VL fx fw fk fv fo c hK hV W R).2 ((run₅ KL VL fx fw fk fv fo c hK hV W R).2 (run₆ KL VL fx fw fk fv fo c hK hV W R hR))))) Kt

end Cert.Attn
-- ==== Proof.Output.lean ====
/-
The output of the body, element by element.
-/
module

public import proofs.«01_k».proof.Proof.Run6
public import Idealize.ShloMosaic.Lib.WritesUnit

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (KL VL : Dev nD → S2x512x512.Idx → Elt F .bf16)

variable (fx : S2x512x768.Idx → Elt F .bf16) (fw : S768x512.Idx → Elt F .bf16) (fk fv : S2x512x8x64.Idx → Elt F .bf16)
    (fo : S512x768.Idx → Elt F .bf16)

attribute [local sl_rounds] duties_dma expect_dma amount_dma payload_dma Finset.sdiff_empty

/-- The two batches of the output as last written. -/
def outB0 (c : Dev nD) : S1x512x768.Idx → Elt F .bf16 :=
  k0_pay292 (View.readAt (Elt F) woM.view (Rect.unit (s := S512x768) ![256, 0] S256x768.size inb_S512x768_S256x768_256_0).toLoadRect fo)
    (run₅.sl.v1712 KL VL fx fw c) (run₅.sl.v1716 KL VL fx fw fo c)
def outB1 (c : Dev nD) : S1x512x768.Idx → Elt F .bf16 :=
  k0_pay293 (View.readAt (Elt F) woM.view (Rect.unit (s := S512x768) ![256, 0] S256x768.size inb_S512x768_S256x768_256_0).toLoadRect fo)
    (run₅.sl.v1722 KL VL fx fw c) (run₅.sl.v1726 KL VL fx fw fo c)

/-- An element of a batch, as an element of the batch alone. -/
def rowOf (i : S2x512x768.Idx) : S1x512x768.Idx := ix3 (0 : Fin 1) (i 1) (i 2)

/-- The output of device `c`. -/
def outAt (c : Dev nD) : S2x512x768.Idx → Elt F .bf16 := fun i =>
  if (i 0).val = 0 then outB0 KL VL fx fw fo c (rowOf i) else outB1 KL VL fx fw fo c (rowOf i)

theorem read_out (f : S2x512x768.Idx → Elt F .bf16) : oM.view.read (Elt F) f = f := by
  exact View.read_whole (cc0_stg5_0 : Ref sig .tc) f

/-- The newest writes of the two batches decide a buffer of two batches. -/
theorem writes_batches (f5 : S2x512x768.Idx → Elt F .bf16) (w0 w1 : S1x512x768.Idx → Elt F .bf16) (Ls : List (View.Piece (Elt F) S2x512x768 .bf16)) :
    oM.view.writes (Elt F) f5 (⟨Rect.unit (s := S2x512x768) ![1, 0, 0] S1x512x768.size inb_S2x512x768_S1x512x768_1_0_0, w1⟩
      :: ⟨Rect.unit (s := S2x512x768) ![0, 0, 0] S1x512x768.size inb_S2x512x768_S1x512x768_0_0_0, w0⟩ :: Ls)
      = fun i => if (i 0).val = 0 then w0 (rowOf i) else w1 (rowOf i) := by
  rw [← read_out (oM.view.writes (Elt F) f5 _)]
  funext i
  have h0 : (i 0).val < 2 := (i 0).isLt
  split
  · next h =>
    rw [View.read_writes_cons_unit_of_not_mem oM.view f5 _ _ _ i rfl 0 (Or.inl (by rw [h]; exact Nat.one_pos))]
    exact View.read_writes_cons_unit_of_mem oM.view f5 _ _ _ i (rowOf i) rfl fun a => by
      fin_cases a
      · show (i 0).val = 0 + 0; omega
      · show (i 1).val = 0 + (i 1).val; omega
      · show (i 2).val = 0 + (i 2).val; omega
  · next h =>
    exact View.read_writes_cons_unit_of_mem oM.view f5 _ _ _ i (rowOf i) rfl fun a => by
      fin_cases a
      · show (i 0).val = 1 + 0; omega
      · show (i 1).val = 0 + (i 1).val; omega
      · show (i 2).val = 0 + (i 2).val; omega

theorem outIs_eq (c : Dev nD) (f : S2x512x768.Idx → Elt F .bf16) (h : OutIs KL VL fx fw fo c f) : f = outAt KL VL fx fw fo c := by
  obtain ⟨f5, rfl⟩ := h
  exact writes_batches f5 (outB0 KL VL fx fw fo c) (outB1 KL VL fx fw fo c) _

end Cert.Attn
-- ==== Proof.Ghost.lean ====
/-
What the launch deals each device: the cells, the tokens around the ring and the credits.
-/
module

public import proofs.«01_k».proof.Proof.Output

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (KL VL : Dev nD → S2x512x512.Idx → Elt F .bf16)

variable (fx : S2x512x768.Idx → Elt F .bf16) (fw : S768x512.Idx → Elt F .bf16) (fk fv : S2x512x8x64.Idx → Elt F .bf16)
    (fo : S512x768.Idx → Elt F .bf16)

attribute [local sl_rounds] duties_dma expect_dma amount_dma payload_dma Finset.sdiff_empty

/-! ## The cells of a device -/

/-- The departure and the arrival cell of transfer `i`: `K`'s are the first eight, `V`'s the last. -/
def depNo (i : Fin 16) : DmaSem sig := ⟨6 + 16 * (i.val / 8) + i.val % 8, by have := i.isLt; show _ < 38; omega⟩
def arrNo (i : Fin 16) : DmaSem sig := ⟨14 + 16 * (i.val / 8) + i.val % 8, by have := i.isLt; show _ < 38; omega⟩

/-- The transfer semaphores of the kernel: departures, arrivals. -/
def dsem : Fin 16 ⊕ Fin 16 → DmaSem sig
  | .inl i => depNo i
  | .inr i => arrNo i
def osem (k : Fin 16 ⊕ Fin 16) : SemLoc sig := .dma (dsem k)

/-- Every cell of a device: the transfers', and the barrier's. -/
abbrev KI : Type := (Fin 16 ⊕ Fin 16) ⊕ Unit
def csem : KI → SemLoc sig
  | .inl k => osem k
  | .inr _ => .reg barS
def kcell (ck : Dev nD × KI) : GSem nD τ sig := ((ck.1 : Thread nD τ), csem ck.2)

theorem dsem_injective : Function.Injective dsem := by
  intro a b h
  rcases a with i | i <;> rcases b with j | j <;> (have h1 := congrArg Fin.val h; have hi := i.isLt; have hj := j.isLt; simp only [dsem, depNo, arrNo] at h1)
  · exact congrArg Sum.inl (Fin.ext (by omega))
  · omega
  · omega
  · exact congrArg Sum.inr (Fin.ext (by omega))
theorem csem_injective : Function.Injective csem := by
  intro a b h
  rcases a with a | a <;> rcases b with b | b
  · exact congrArg Sum.inl (dsem_injective (by simpa only [csem, osem, SemLoc.dma.injEq] using h))
  · cases h
  · cases h
  · rfl
theorem kcell_injective : Function.Injective kcell := by
  rintro ⟨c, k⟩ ⟨c', k'⟩ h
  have h1 : c = c' := by have := congrArg (fun g : GSem nD τ sig => g.1.1) h; exact this
  subst h1
  exact congrArg (Prod.mk c) (csem_injective (congrArg Prod.snd h))
def ringCells : Finset (GSem nD τ sig) := Finset.univ.map ⟨kcell, kcell_injective⟩

/-- The duties of a device's cells: one per transfer cell, two of the barrier. -/
abbrev TI : Type := (Fin 16 ⊕ Fin 16) ⊕ Bool
def tokOf (ct : Dev nD × TI) : GSem nD τ sig × ℕ × Bool := match ct.2 with
  | .inl k => (dmaCell ct.1 (dsem k), 0, false)
  | .inr b => (barCell ct.1, 0, b)
theorem tokOf_injective : Function.Injective tokOf := by
  rintro ⟨c, t⟩ ⟨c', t'⟩ h
  have h1 : c = c' := by
    have := congrArg (fun x : GSem nD τ sig × ℕ × Bool => x.1.1.1) h
    rcases t with t | t <;> rcases t' with t' | t' <;> exact this
  subst h1
  refine congrArg (Prod.mk c) ?_
  rcases t with t | t <;> rcases t' with t' | t'
  · exact congrArg Sum.inl (dsem_injective (by
      have := congrArg (fun x : GSem nD τ sig × ℕ × Bool => x.1.2) h
      simpa only [tokOf, SemLoc.dma.injEq] using this))
  · exact absurd (congrArg (fun x : GSem nD τ sig × ℕ × Bool => x.1.2) h) (fun h' => by cases h')
  · exact absurd (congrArg (fun x : GSem nD τ sig × ℕ × Bool => x.1.2) h) (fun h' => by cases h')
  · exact congrArg Sum.inr (congrArg (fun x : GSem nD τ sig × ℕ × Bool => x.2.2) h)
def ringToks : Finset (GSem nD τ sig × ℕ × Bool) := Finset.univ.map ⟨tokOf, tokOf_injective⟩

/-- The device transfer `i` of a device writes, as a permutation of the devices. -/
def ringOf (i : Fin 16) : Dev nD ≃ Dev nD := bif [0, 2, 5, 6].contains (i.val % 8) then ring else ring.symm

/-! ## What the launch deals -/

/-- The duty tokens of device `c`'s own cells, and those of the duties `c` pays. -/
def toks (c : Dev nD) : sProp 𝕄 :=
  iprop(((bigSep Finset.univ fun i : Fin 16 => dutyTok ER (dmaCell c (depNo i)) 0 false) ∗ (bigSep Finset.univ fun i : Fin 16 => dutyTok ER (dmaCell c (arrNo i)) 0 false))
    ∗ dutyTok ER (barCell c) 0 false ∗ dutyTok ER (barCell c) 0 true)
def payToks (c : Dev nD) : sProp 𝕄 :=
  iprop(((bigSep Finset.univ fun i : Fin 16 => dutyTok ER (dmaCell c (depNo i)) 0 false) ∗ (bigSep Finset.univ fun i : Fin 16 => dutyTok ER (dmaCell (ringOf i c) (arrNo i)) 0 false))
    ∗ dutyTok ER (barCell (nxt c)) 0 false ∗ dutyTok ER (barCell (prv c)) 0 true)

def G (c : Dev nD) : sProp 𝕄 :=
  iprop((bigSep Finset.univ fun k : KI => roundState ER (Rd KL VL) (kcell (c, k)) 0)
    ∗ (bigSep Finset.univ fun k : KI => reached ER (kcell (c, k)) 0) ∗ (bigSep Finset.univ fun k : KI => atPos ER (kcell (c, k)) 0 ∅ 0) ∗ toks c)

/-- That every cell's invariant stands and its first round is reached. -/
def recs : sProp 𝕄 :=
  iprop((bigSep Finset.univ fun ck : Dev nD × KI => iprop(∃ κ : ℕ, cellInv ER (Rd KL VL) κ (kcell ck)))
    ∗ bigSep Finset.univ fun ck : Dev nD × KI => reached ER (kcell ck) 0)
instance recs_persistent : BI.Persistent (recs KL VL : sProp 𝕄) := by unfold recs; infer_instance

def G' (c : Dev nD) : sProp 𝕄 :=
  iprop(recs KL VL ∗ (bigSep Finset.univ fun k : KI => atPos ER (kcell (c, k)) 0 ∅ 0) ∗ payToks c)

theorem bigSepL_two {I : Type} (i j : I) (l : List I) (Φ : I → sProp 𝕄) : bigSepL (i :: j :: l) Φ = iprop(Φ i ∗ bigSepL (j :: l) Φ) := rfl
theorem bigSepL_next {I : Type} (i : I) (l : List I) (Φ : I → sProp 𝕄) : bigSepL (i :: l) Φ = iprop(Φ i ∗ bigSepL l Φ) := bigSepL_cons i l Φ
theorem bigSep_either {A B : Type} [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ
theorem bigSep_bool (Φ : Bool → sProp 𝕄) : bigSep Finset.univ Φ = iprop(Φ false ∗ Φ true) :=
  bigSep_univ_eq_bigSepL [false, true] (by decide) (by decide) Φ
theorem bigSep_unit (Φ : Unit → sProp 𝕄) : bigSep Finset.univ Φ = Φ () :=
  bigSep_univ_eq_bigSepL [()] (by decide) (by decide) Φ

theorem fund_ring : BI.own (ER (F := F) (initOf ringCells ringToks)) ⊢ (|==> bigSep Finset.univ (G KL VL) : sProp 𝕄) := by
  have hX (Φ : GSem nD τ sig → sProp 𝕄) : bigSep ringCells Φ = bigSep Finset.univ fun c : Dev nD => bigSep Finset.univ fun k : KI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks; rw [bigSep_either, bigSep_either, bigSep_bool]; rfl
  iintro HX
  imod (Rounds.fund ER (Rd KL VL) ringCells ringToks) $$ HX with ⟨Hst, Hr, Hat, Htok⟩
  imodintro
  ihave Hst := (Entails.of_eq (hX fun g => roundState ER (Rd KL VL) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hr]; · iexact Hr
  isplitl [Hat]; · iexact Hat
  iexact Htok

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      = (bigSep Finset.univ fun k : KI => semVal (kcell (c, k)) 0 : sProp 𝕄) := by
  rw [unscopedSems0_eq, bigSep_either, bigSep_unit]; rfl

theorem core_alloc (c : Dev nD) :
    iprop(Pipeline.ownSems0 (Ix := Unit) (Name := ℕ) (U := UU) (Lvl := ℕ) (Val := Elt F) (τ := τ) osem c ∗ unscopedSems0 c ∗ G KL VL c)
      ⊢ |={Set.univ}=> iprop((bigSep Finset.univ fun k => iprop(∃ κ : ℕ, cellInv ER (Rd KL VL) κ (kcell (c, k))))
          ∗ (bigSep Finset.univ fun k => reached ER (kcell (c, k)) 0) ∗ (bigSep Finset.univ fun k => atPos ER (kcell (c, k)) 0 ∅ 0) ∗ toks c) := by
  unfold G
  iintro ⟨Hos, Hus, Hst, Hr, Hat, Htok⟩
  ihave Hv := (Entails.of_eq (sems0_eq (F := F) c)) $$ [Hos Hus]
  · isplitl [Hos] <;> iassumption
  imod (show iprop((bigSep Finset.univ fun k : KI => semVal (kcell (c, k)) 0) ∗ bigSep Finset.univ fun k : KI => roundState ER (Rd KL VL) (kcell (c, k)) 0)
      ⊢ (|={Set.univ}=> bigSep Finset.univ fun k => iprop(∃ κ : ℕ, cellInv ER (Rd KL VL) κ (kcell (c, k))) : sProp 𝕄) from by
        rw [← bigSep_sep']
        exact (bigSep_mono fun k _ => (Rounds.body_intro ER (Rd KL VL) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- The tokens dealt around the ring. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    Pipeline.bigSep_univ_comm (fun (c : Dev nD) (i : Fin 16) => (dutyTok ER (dmaCell c (arrNo i)) 0 false : sProp 𝕄)),
    bigSep_congr (s := Finset.univ) (fun (i : Fin 16) _ => bigSep_univ_equiv (ringOf i) (fun c : Dev nD => (dutyTok ER (dmaCell c (arrNo i)) 0 false : sProp 𝕄))),
    Pipeline.bigSep_univ_comm (fun (i : Fin 16) (c : Dev nD) => (dutyTok ER (dmaCell (ringOf i c) (arrNo i)) 0 false : sProp 𝕄))]
  exact BI.Entails.refl _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd KL VL) κ (kcell (c, k))))
          ∗ (bigSep Finset.univ fun k => reached ER (kcell (c, k)) 0) ∗ (bigSep Finset.univ fun k => atPos ER (kcell (c, k)) 0 ∅ 0) ∗ toks c) : sProp 𝕄)
      ⊢ bigSep Finset.univ (G' KL VL) := by
  rw [bigSep_sep', bigSep_sep', bigSep_sep', ← bigSep_univ_prod (fun ck : Dev nD × KI => iprop(∃ κ : ℕ, cellInv ER (Rd KL VL) κ (kcell ck))),
    ← bigSep_univ_prod (fun ck : Dev nD × KI => (reached ER (kcell ck) 0 : sProp 𝕄))]
  iintro ⟨HI, HR, Hat, Htok⟩
  ihave Htk := (toks_around (F := F)) $$ Htok
  iapply (with_persistent (R := recs KL VL) (Φ := fun c => iprop((bigSep Finset.univ fun k : KI => atPos ER (kcell (c, k)) 0 ∅ 0) ∗ payToks c)) fun c _ => BI.Entails.refl _)
  isplitl [HI HR]
  · unfold recs; isplitl [HI]; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G KL VL c) : sProp 𝕄)
    ⊢ |={Set.univ}=> bigSep Finset.univ (G' KL VL) :=
  ((bigSep_mono fun c _ => core_alloc KL VL c).trans (bigSep_fupd _ _)).trans (BI.fupd_mono (regroup KL VL))

/-! ## The launch credit -/

/-- The order in which a device starts its transfers. -/
def sendOrder : List (Fin 16) := [0, 1, 4, 5, 8, 9, 12, 13, 2, 3, 10, 11, 6, 7, 14, 15]

def dueOf (c : Dev nD) (i : Fin 16) : GSem nD τ sig × ℕ := (dmaCell (ringOf i c) (arrNo i), dmaAmt (arrNo i).val)

theorem duesL_eq (c : Dev nD) : duesL c = (barCell (prv c), 1) :: (barCell (nxt c), 1) :: sendOrder.map (dueOf c) := rfl

theorem due_cred (O : Dev nD → CellTallies nD τ sig Unit) (e : Dev nD ≃ Dev nD) (sm : SemLoc sig) (n : ℕ) (c : Dev nD) :
    (Pipeline.launchCred (fun d => O d + tallyAt ((e d : Thread nD τ), sm) () n) c : sProp 𝕄)
      ⊢ iprop(Pipeline.launchCred O c ∗ cred (tallyAt ((c : Thread nD τ), sm) () n)) := by
  rw [Pipeline.launchCred_add O (fun d => tallyAt ((e d : Thread nD τ), sm) () n)]
  exact sep_mono_right (Pipeline.launchCred_tallyAt sm e e.symm e.apply_symm_apply e.symm_apply_apply () n c)

theorem arr_creds (c : Dev nD) : ∀ l : List (Fin 16),
    (Pipeline.launchCred (fun d => owedOf (l.map (dueOf d))) c : sProp 𝕄) ⊢ bigSepL l fun i => cred (tallyAt (dmaCell c (arrNo i)) () (dmaAmt (arrNo i).val))
  | [] => Entails.of_eq (Pipeline.launchCred_zero c)
  | i :: l => by
    rw [bigSepL_next]
    refine (due_cred (fun d => owedOf (l.map (dueOf d))) (ringOf i) (.dma (arrNo i)) (dmaAmt (arrNo i).val) c).trans ?_
    iintro ⟨H, Hc⟩
    isplitl [Hc]; · iexact Hc
    iapply (arr_creds c l); iexact H

theorem creds (c : Dev nD) : (Pipeline.launchCred (fun d => owed d 0) c : sProp 𝕄)
    ⊢ iprop(cred (tallyAt (barCell c) () 2) ∗ bigSep Finset.univ fun i : Fin 16 => cred (tallyAt (dmaCell c (arrNo i)) () (dmaAmt (arrNo i).val))) := by
  have h : (fun d : Dev nD => owed d 0) = fun d => owedOf (sendOrder.map (dueOf d)) + tallyAt (barCell (nxt d)) () 1 + tallyAt (barCell (prv d)) () 1 := by
    funext d; unfold owed; rw [List.drop_zero, duesL_eq]; rfl
  rw [h]
  iintro H
  ihave H := (due_cred (fun d => owedOf (sendOrder.map (dueOf d)) + tallyAt (barCell (nxt d)) () 1) ring.symm (.reg barS) 1 c) $$ [H]
  · iexact H
  icases H with ⟨H, H1⟩
  ihave H := (due_cred (fun d => owedOf (sendOrder.map (dueOf d))) ring (.reg barS) 1 c) $$ [H]
  · iexact H
  icases H with ⟨H, H2⟩
  isplitl [H1 H2]
  · rw [← tallyAt_add (barCell c) () 1 1]
    iapply (cred_add _ _).2
    isplitl [H1] <;> iassumption
  · rw [bigSep_univ_eq_bigSepL sendOrder (by decide) (by decide)]
    iapply (arr_creds c sendOrder); iexact H

/-! ## What the body starts from -/

theorem rec_dma (n : Dev nD) (k : Fin 16 ⊕ Fin 16) : (recs KL VL : sProp 𝕄) ⊢ iprop((∃ κ, cellInv ER (Rd KL VL) κ (dmaCell n (dsem k))) ∗ reached ER (dmaCell n (dsem k)) 0) := by
  unfold recs
  exact BIClass.sep_mono (bigSep_elim (Finset.mem_univ (n, Sum.inl k))) (bigSep_elim (Finset.mem_univ (n, Sum.inl k)))
theorem rec_bar (n : Dev nD) : (recs KL VL : sProp 𝕄) ⊢ iprop((∃ κ, cellInv ER (Rd KL VL) κ (barCell n)) ∗ reached ER (barCell n) 0) := by
  unfold recs
  exact BIClass.sep_mono (bigSep_elim (Finset.mem_univ (n, Sum.inr ()))) (bigSep_elim (Finset.mem_univ (n, Sum.inr ())))

theorem tok_one (c : Dev nD) (i : Fin 16) :
    iprop(recs KL VL ∗ dutyTok ER (dmaCell c (depNo i)) 0 false ∗ dutyTok ER (dmaCell (ringOf i c) (arrNo i)) 0 false) ⊢ (tokP KL VL c (ringOf i c) (depNo i) (arrNo i) : sProp 𝕄) := by
  unfold tokP
  iintro ⟨#HR, H1, H2⟩
  ihave #HA := (rec_dma KL VL c (.inl i)) $$ HR
  ihave #HB := (rec_dma KL VL (ringOf i c) (.inr i)) $$ HR
  icases HA with ⟨#IA, #RA⟩
  icases HB with ⟨#IB, #RB⟩
  isplitr; · iexact IA
  isplitr; · iexact IB
  isplitl [H1]; · iexact H1
  isplitr; · iexact RA
  isplitl [H2]; · iexact H2
  iexact RB

theorem open_one (c : Dev nD) (i : Fin 16) : iprop(recs KL VL ∗ atPos ER (dmaCell c (depNo i)) 0 ∅ 0) ⊢ (openP KL VL c (depNo i) : sProp 𝕄) := by
  unfold openP
  iintro ⟨#HR, H⟩
  ihave #HA := (rec_dma KL VL c (.inl i)) $$ HR
  icases HA with ⟨#IA, #RA⟩
  isplitr; · iexact IA
  iexact H

theorem wait_one (c : Dev nD) (i : Fin 16) :
    iprop(recs KL VL ∗ atPos ER (dmaCell c (arrNo i)) 0 ∅ 0 ∗ cred (tallyAt (dmaCell c (arrNo i)) () (dmaAmt (arrNo i).val)))
      ⊢ (waitP KL VL c (arrNo i) (dmaAmt (arrNo i).val) : sProp 𝕄) := by
  unfold waitP openP
  iintro ⟨#HR, H, Hc⟩
  ihave #HA := (rec_dma KL VL c (.inr i)) $$ HR
  icases HA with ⟨#IA, #RA⟩
  isplitl [H]
  · isplitr; · iexact IA
    iexact H
  iexact Hc

theorem all_toks (c : Dev nD) : (bigSep Finset.univ fun i : Fin 16 => tokP KL VL c (ringOf i c) (depNo i) (arrNo i) : sProp 𝕄) ⊢ iprop(toksFull KL VL c ∗ toksHalf KL VL c) := by
  rw [bigSep_univ_eq_bigSepL sendOrder (by decide) (by decide)]
  unfold sendOrder toksFull toksHalf
  simp only [bigSepL_two, bigSepL_singleton]
  iintro ⟨t0, t1, t4, t5, t8, t9, t12, t13, t2, t3, t10, t11, t6, t7, t14, t15⟩
  isplitl [t0 t1 t4 t5 t8 t9 t12 t13]
  · isplitl [t0]; · iexact t0
    isplitl [t1]; · iexact t1
    isplitl [t4]; · iexact t4
    isplitl [t5]; · iexact t5
    isplitl [t8]; · iexact t8
    isplitl [t9]; · iexact t9
    isplitl [t12]; · iexact t12
    iexact t13
  · isplitl [t2]; · iexact t2
    isplitl [t3]; · iexact t3
    isplitl [t10]; · iexact t10
    isplitl [t11]; · iexact t11
    isplitl [t6]; · iexact t6
    isplitl [t7]; · iexact t7
    isplitl [t14]; · iexact t14
    iexact t15

theorem all_deps (c : Dev nD) : (bigSep Finset.univ fun i : Fin 16 => openP KL VL c (depNo i) : sProp 𝕄) ⊢ iprop(depsFull KL VL c ∗ depsHalf KL VL c) := by
  rw [bigSep_univ_eq_bigSepL sendOrder (by decide) (by decide)]
  unfold sendOrder depsFull depsHalf
  simp only [bigSepL_two, bigSepL_singleton]
  iintro ⟨d0, d1, d4, d5, d8, d9, d12, d13, d2, d3, d10, d11, d6, d7, d14, d15⟩
  isplitl [d0 d1 d4 d5 d8 d9 d12 d13]
  · isplitl [d0]; · iexact d0
    isplitl [d1]; · iexact d1
    isplitl [d4]; · iexact d4
    isplitl [d5]; · iexact d5
    isplitl [d8]; · iexact d8
    isplitl [d9]; · iexact d9
    isplitl [d12]; · iexact d12
    iexact d13
  · isplitl [d2]; · iexact d2
    isplitl [d3]; · iexact d3
    isplitl [d10]; · iexact d10
    isplitl [d11]; · iexact d11
    isplitl [d6]; · iexact d6
    isplitl [d7]; · iexact d7
    isplitl [d14]; · iexact d14
    iexact d15

theorem all_arrs (c : Dev nD) : (bigSep Finset.univ fun i : Fin 16 => waitP KL VL c (arrNo i) (dmaAmt (arrNo i).val) : sProp 𝕄)
    ⊢ iprop(arr0 KL VL c ∗ arr2 KL VL c ∗ arr1 KL VL c ∗ arr3 KL VL c) := by
  rw [bigSep_univ_eq_bigSepL [0, 1, 8, 9, 4, 5, 12, 13, 2, 3, 10, 11, 6, 7, 14, 15] (by decide) (by decide)]
  unfold arr0 arr2 arr1 arr3
  simp only [bigSepL_two, bigSepL_singleton]
  iintro ⟨a0, a1, a8, a9, a4, a5, a12, a13, a2, a3, a10, a11, a6, a7, a14, a15⟩
  isplitl [a0 a1 a8 a9]
  · isplitl [a0]; · iexact a0
    isplitl [a1]; · iexact a1
    isplitl [a8]; · iexact a8
    iexact a9
  isplitl [a4 a5 a12 a13]
  · isplitl [a4]; · iexact a4
    isplitl [a5]; · iexact a5
    isplitl [a12]; · iexact a12
    iexact a13
  isplitl [a2 a3 a10 a11]
  · isplitl [a2]; · iexact a2
    isplitl [a3]; · iexact a3
    isplitl [a10]; · iexact a10
    iexact a11
  · isplitl [a6]; · iexact a6
    isplitl [a7]; · iexact a7
    isplitl [a14]; · iexact a14
    iexact a15

/-- What the launch hands the body of device `c`. -/
def start (c : Dev nD) : sProp 𝕄 := iprop(G' KL VL c ∗ Pipeline.launchCred (fun d => owed d 0) c ∗ levAts L lv)

theorem start_body (c : Dev nD) : (start KL VL c : sProp 𝕄) ⊢ startP KL VL c := by
  unfold start G' payToks
  rw [bigSep_either, bigSep_either, bigSep_unit]
  iintro ⟨⟨#HR, ⟨⟨Hd, Ha⟩, Hb⟩, ⟨⟨Td, Ta⟩, TbN, TbP⟩⟩, Hc, Hlev⟩
  ihave Hc := (creds (F := F) c) $$ Hc
  icases Hc with ⟨Hcb, Hca⟩
  ihave #HB := (rec_bar KL VL c) $$ HR
  icases HB with ⟨#IB, #RB⟩
  ihave #HN := (rec_bar KL VL (nxt c)) $$ HR
  icases HN with ⟨#IN, #RN⟩
  ihave #HP := (rec_bar KL VL (prv c)) $$ HR
  icases HP with ⟨#IP, #RP⟩
  ihave Ht := (with_persistent (R := recs KL VL) (S := (Finset.univ : Finset (Fin 16)))
      (Φ := fun i => iprop(dutyTok ER (dmaCell c (depNo i)) 0 false ∗ dutyTok ER (dmaCell (ringOf i c) (arrNo i)) 0 false)) (fun i _ => tok_one KL VL c i)) $$ [Td Ta]
  · isplitr; · iexact HR
    rw [bigSep_sep']
    isplitl [Td]; · iexact Td
    iexact Ta
  ihave Ht := (all_toks KL VL c) $$ Ht
  icases Ht with ⟨HtF, HtH⟩
  ihave Ho := (with_persistent (R := recs KL VL) (S := (Finset.univ : Finset (Fin 16)))
      (Φ := fun i => atPos ER (dmaCell c (depNo i)) 0 ∅ 0) (fun i _ => open_one KL VL c i)) $$ [Hd]
  · isplitr; · iexact HR
    iexact Hd
  ihave Ho := (all_deps KL VL c) $$ Ho
  icases Ho with ⟨HdF, HdH⟩
  ihave Hw := (with_persistent (R := recs KL VL) (S := (Finset.univ : Finset (Fin 16)))
      (Φ := fun i => iprop(atPos ER (dmaCell c (arrNo i)) 0 ∅ 0 ∗ cred (tallyAt (dmaCell c (arrNo i)) () (dmaAmt (arrNo i).val)))) (fun i _ => wait_one KL VL c i)) $$ [Ha Hca]
  · isplitr; · iexact HR
    rw [bigSep_sep']
    isplitl [Ha]; · iexact Ha
    iexact Hca
  ihave Hw := (all_arrs KL VL c) $$ Hw
  icases Hw with ⟨H0, H2, H1, H3⟩
  unfold startP
  isplitl [Hlev]
  · isplitl [Hlev]; · iexact Hlev
    iexact IB
  isplitl [TbP]
  · unfold sigP
    isplitr; · iexact IP
    isplitl [TbP]; · iexact TbP
    iexact RP
  isplitl [TbN]
  · unfold sigP
    isplitr; · iexact IN
    isplitl [TbN]; · iexact TbN
    iexact RN
  isplitl [Hcb Hb]
  · unfold barW
    isplitr; · iexact IB
    isplitl [Hcb]; · iexact Hcb
    iexact Hb
  isplitl [HtF]; · iexact HtF
  isplitl [HtH]; · iexact HtH
  isplitl [H0]; · iexact H0
  isplitl [H2]; · iexact H2
  isplitl [H1]; · iexact H1
  isplitl [H3]; · iexact H3
  isplitl [HdF]; · iexact HdF
  iexact HdH

/-- The kernel's own semaphores are the cells the body closes. -/
theorem own_of_cells (c : Dev nD) :
    (bigSep Finset.univ fun k : Fin 32 => semVal (dmaCell c (cellNo k)) 0 : sProp 𝕄)
      ⊢ Pipeline.ownSems0 (Ix := Unit) (Name := ℕ) (U := UU) (Lvl := ℕ) (Val := Elt F) (τ := τ) osem c := by
  rw [Pipeline.ownSems0_eq_of_list c osem [.inl 0, .inl 1, .inl 2, .inl 3, .inl 4, .inl 5, .inl 6, .inl 7, .inr 0, .inr 1, .inr 2, .inr 3, .inr 4, .inr 5, .inr 6, .inr 7, .inl 8, .inl 9, .inl 10, .inl 11, .inl 12, .inl 13, .inl 14, .inl 15, .inr 8, .inr 9, .inr 10, .inr 11, .inr 12, .inr 13, .inr 14, .inr 15] (by decide) (by decide),
    bigSep_univ_eq_bigSepL [0, 1, 2, 3, 4, 5, 6, 7, 8, 9, 10, 11, 12, 13, 14, 15, 16, 17, 18, 19, 20, 21, 22, 23, 24, 25, 26, 27, 28, 29, 30, 31] (by decide) (by decide)]
  exact BI.Entails.refl _

end Cert.Attn
-- ==== Proof.Launch.lean ====
/-
The launch: the run of the four devices from any memory.
-/
module

public import proofs.«01_k».proof.Proof.Ghost
public import proofs.«01_k».proof.Proof.Gen.KernelIdeal.Points
public import proofs.«01_k».proof.Proof.Gen.KernelIdeal.Frame
public import Idealize.ShloMosaic.Lib.Pipeline.CollectiveSegs

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (KL VL : Dev nD → S2x512x512.Idx → Elt F .bf16)

variable (fx : S2x512x768.Idx → Elt F .bf16) (fw : S768x512.Idx → Elt F .bf16) (fk fv : S2x512x8x64.Idx → Elt F .bf16)
    (fo : S512x768.Idx → Elt F .bf16)

attribute [local sl_rounds] duties_dma expect_dma amount_dma payload_dma Finset.sdiff_empty

open Idealize.ShloMosaic.Pipeline (Dat Cfg Window BodyObligation cellOf)

variable (m : (ℓ : Loc nD τ sig) → Buf (Elt F) ℓ) (ρ : Dev nD → PrngReg)

def s₀ : MemSt nD τ sig (Elt F) := ⟨m, fun _ => 0, ρ⟩

/-! ## What is staged -/

def fxOf (c : Dev nD) : S2x512x768.Idx → Elt F .bf16 := (win0_0.blk (0 : Fin 1)).view.read (Elt F) ((s₀ m ρ).mem ((c : Thread nD τ).loc main_arg0))
def fwOf (c : Dev nD) : S768x512.Idx → Elt F .bf16 := (win0_1.blk (0 : Fin 1)).view.read (Elt F) ((s₀ m ρ).mem ((c : Thread nD τ).loc main_arg1))
def fkOf (c : Dev nD) : S2x512x8x64.Idx → Elt F .bf16 := (win0_2.blk (0 : Fin 1)).view.read (Elt F) ((s₀ m ρ).mem ((c : Thread nD τ).loc main_arg2))
def fvOf (c : Dev nD) : S2x512x8x64.Idx → Elt F .bf16 := (win0_3.blk (0 : Fin 1)).view.read (Elt F) ((s₀ m ρ).mem ((c : Thread nD τ).loc main_arg3))
def foOf (c : Dev nD) : S512x768.Idx → Elt F .bf16 := (win0_4.blk (0 : Fin 1)).view.read (Elt F) ((s₀ m ρ).mem ((c : Thread nD τ).loc main_arg4))

/-- The local blocks of `K` and `V` the devices pass around. -/
def KLOf (c : Dev nD) : S2x512x512.Idx → Elt F .bf16 := k0_pay1 (fkOf m ρ c)
def VLOf (c : Dev nD) : S2x512x512.Idx → Elt F .bf16 := k0_pay2 (fvOf m ρ c)

/-- The kernel's result on device `c`. -/
def resOf (c : Dev nD) : S2x512x768.Idx → Elt F .bf16 := outAt (KLOf m ρ) (VLOf m ρ) (fxOf m ρ c) (fwOf m ρ c) (foOf m ρ c) c

/-! ## The pipeline's proof data -/

def Φ₀ (c : Dev nD) : sProp 𝕄 := iprop(start (KLOf m ρ) (VLOf m ρ) c ∗ scratchP c)
def Φ₁ (c : Dev nD) : sProp 𝕄 := iprop(scratchP c ∗ (bigSep Finset.univ fun k : Fin 32 => semVal (dmaCell c (cellNo k)) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => fxOf m ρ c
    | ⟨1, _⟩ => fwOf m ρ c
    | ⟨2, _⟩ => fkOf m ρ c
    | ⟨3, _⟩ => fvOf m ρ c
    | ⟨4, _⟩ => foOf m ρ c
    | ⟨5, _⟩ => resOf m ρ c
  Φ t := match t with
    | ⟨0, _⟩ => Φ₀ m ρ c
    | ⟨_ + 1, _⟩ => Φ₁ c
  q _ := fullShare
  owed t := match t with
    | ⟨0, _⟩ => owed c 0
    | ⟨_ + 1, _⟩ => 0

theorem bigSep_wins (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ buf c b f) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ buf c b f)

abbrev tp : Fin cfg0.N := t0_0

def bodyPre (c : Dev nD) : sProp 𝕄 :=
  iprop(Φ₀ m ρ c ∗ (dats m ρ 0 c).owesAt () tp.castSucc
    ∗ (∃ d, stg c cc0_stg0_0 ((dats m ρ 0 c).before (0 : Fin 6) tp d))
    ∗ (∃ d, stg c cc0_stg1_0 ((dats m ρ 0 c).before (1 : Fin 6) tp d))
    ∗ (∃ d, stg c cc0_stg2_0 ((dats m ρ 0 c).before (2 : Fin 6) tp d))
    ∗ (∃ d, stg c cc0_stg3_0 ((dats m ρ 0 c).before (3 : Fin 6) tp d))
    ∗ (∃ d, stg c cc0_stg4_0 ((dats m ρ 0 c).before (4 : Fin 6) tp d))
    ∗ (∃ d, stg c cc0_stg5_0 ((dats m ρ 0 c).before (5 : Fin 6) tp d)))

def bodyPost (c : Dev nD) : sProp 𝕄 :=
  iprop(Φ₁ c ∗ (dats m ρ 0 c).owesAt () tp.succ ∗ stg c cc0_stg0_0 (fxOf m ρ c) ∗ stg c cc0_stg1_0 (fwOf m ρ c)
    ∗ stg c cc0_stg2_0 (fkOf m ρ c) ∗ stg c cc0_stg3_0 (fvOf m ρ c) ∗ stg c cc0_stg4_0 (foOf m ρ c) ∗ stg c cc0_stg5_0 (resOf m ρ c))

/-- What the run leaves is what the pipeline takes back. -/
theorem post_intro (c : Dev nD) (f : S2x512x768.Idx → Elt F .bf16) (h : OutIs (KLOf m ρ) (VLOf m ρ) (fxOf m ρ c) (fwOf m ρ c) (foOf m ρ c) c f) :
    (endP (fxOf m ρ c) (fwOf m ρ c) (fkOf m ρ c) (fvOf m ρ c) (foOf m ρ c) c f : sProp 𝕄) ⊢ bodyPost m ρ c := by
  have hf : f = resOf m ρ c := outIs_eq _ _ _ _ _ c f h
  subst hf
  unfold endP argsP bodyPost Φ₁ Dat.owesAt Pipeline.owesWithin
  rw [show (dats m ρ 0 c).owed tp.succ = 0 from rfl]
  iintro ⟨⟨H0, H1, H2, H3, H4⟩, Hs, H5, Hd, Hb, ⟨%W, HO⟩⟩
  isplitl [Hs Hd Hb]
  · isplitl [Hs]; · iexact Hs
    isplitl [Hd]; · iexact Hd
    iexact Hb
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

theorem sound_body (c : Dev nD) :
    (bodyPre m ρ c : sProp 𝕄) ⊢ wp frame (wpE (defs₀ (F := F)) 𝒱₀ (c : Thread nD τ) none) Set.univ (atBufs (cc0_body (F := F))) (fun _ => bodyPost m ρ c) := by
  unfold bodyPre Φ₀ Dat.owesAt Pipeline.owesWithin
  iintro ⟨⟨Hs, Hscr⟩, ⟨%W, %hW, HO⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have e0 : g0 = fxOf m ρ c := by rw [hg0]; unfold Dat.before; rw [if_pos (fetch0_0 tp)]; rfl
  subst e0
  have e1 : g1 = fwOf m ρ c := by rw [hg1]; unfold Dat.before; rw [if_pos (fetch0_1 tp)]; rfl
  subst e1
  have e2 : g2 = fkOf m ρ c := by rw [hg2]; unfold Dat.before; rw [if_pos (fetch0_2 tp)]; rfl
  subst e2
  have e3 : g3 = fvOf m ρ c := by rw [hg3]; unfold Dat.before; rw [if_pos (fetch0_3 tp)]; rfl
  subst e3
  have e4 : g4 = foOf m ρ c := by rw [hg4]; unfold Dat.before; rw [if_pos (fetch0_4 tp)]; rfl
  subst e4
  rw [show (dats m ρ 0 c).owed tp.castSucc = owed c 0 from rfl]
  ihave Hs := (start_body (KLOf m ρ) (VLOf m ρ) c) $$ Hs
  iapply (body_run (KLOf m ρ) (VLOf m ρ) (fxOf m ρ c) (fwOf m ρ c) (fkOf m ρ c) (fvOf m ρ c) (foOf m ρ c) c rfl rfl W (fun _ => bodyPost m ρ c) (fun f h => post_intro m ρ c f h))
  isplitl [Hs]; · iexact Hs
  isplitl [Hscr]; · iexact Hscr
  isplitl [H0 H1 H2 H3 H4]
  · unfold argsP
    isplitl [H0]; · iexact H0
    isplitl [H1]; · iexact H1
    isplitl [H2]; · iexact H2
    isplitl [H3]; · iexact H3
    iexact H4
  isplitl [H5]; · iexists g5; iexact H5
  isplitl [HO]; · iexact HO
  iintro %f H
  iexact H

set_option maxRecDepth 100000 in
theorem body_obligation (c : Dev nD) : BodyObligation (dats (F := F) m ρ 0 c) (defs₀ (F := F)) 𝒱₀ () Set.univ := fun t => by
  rw [show t = tp from fin_N0 t]
  rw [bigSep_wins, bigSep_wins]
  simp only [owns_buf]
  exact sound_body m ρ c

/-! ## The launch -/

theorem osem_scoped : ∀ n : Fin 38, 6 ≤ n.val → (SemLoc.dma n : SemLoc sig).isScoped .tc = true := by decide +kernel
theorem stage_lt (w : Fin cfg0.W) (s) : ((cfg0.spec w).sem s).val < 6 := by fin_cases w <;> fin_cases s <;> decide
theorem dsem_ge (k : Fin 16 ⊕ Fin 16) : 6 ≤ (dsem k).val := by
  rcases k with i | i
  · show 6 ≤ 6 + 16 * (i.val / 8) + i.val % 8; omega
  · show 6 ≤ 14 + 16 * (i.val / 8) + i.val % 8; omega

theorem ownSemFacts : Pipeline.OwnSemFacts cfg0.spec osem where
  isScoped k := osem_scoped (dsem k) (dsem_ge k)
  inj a b h := dsem_injective (by simpa only [osem, SemLoc.dma.injEq] using h)
  disj k w s h := by
    have h1 : dsem k = (cfg0.spec w).sem s := by simpa only [osem, SemLoc.dma.injEq] using h
    have h2 := stage_lt w s
    have h3 := dsem_ge k
    rw [h1] at h3; omega

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf ringCells ringToks)

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' (KLOf m ρ) (VLOf m ρ) c)
      ⊢ |={Set.univ}=> iprop(start (KLOf m ρ) (VLOf m ρ) c ∗ emp) := by
  iintro ⟨-, Hlev, Hcr, -, HG⟩
  imodintro
  unfold start
  isplitl
  · isplitl [HG]; · iexact HG
    isplitl [Hcr]; · iexact Hcr
    iexact Hlev
  · iempintro

theorem phi0_intro (c : Dev nD) :
    iprop(start (KLOf m ρ) (VLOf m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratchP
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratchP
  iintro ⟨Hr, Hd, Hb⟩
  isplitl [Hb]; · iexact Hb
  isplitl [Hd]; · iapply (own_of_cells c); iexact Hd
  iexact Hr

theorem above_owed₀ (c : Dev nD) : Above 0 (owed c 0) := above_owedOf _ _ (by revert c; decide)

theorem mayWait_stage (c : Dev nD) (q : DmaSem sig) (hq : lv ((c : Thread nD τ), .dma q) () = 0) (O : CellTallies nD τ sig Unit) (hO : O = owed c 0 ∨ O = 0) :
    (levAts L lv : sProp 𝕄) ⊢ MayWait (c : Thread nD τ) (.dma q) () O :=
  mayWait_above c (.dma q) 0 (le_of_eq hq) O (by
    rcases hO with rfl | rfl
    · exact above_owed₀ c
    · exact above_zero 0)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- At the mesh of four devices, for any float values, from any memory with zero counters: every weakly fair execution of
    the four kernels terminates, each array at what the pipeline leaves in it and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := waits m ρ)
    (G := G (KLOf m ρ) (VLOf m ρ)) (G' := G' (KLOf m ρ) (VLOf m ρ)) (u₀ := u₀)
    (hu₀ := by
      unfold u₀
      iintro Hu
      ihave H := (ownU_pair _ _) $$ Hu
      icases H with ⟨HP, HX⟩
      imod (fund_ring (KLOf m ρ) (VLOf m ρ)) $$ HX with HG
      imodintro
      isplitl [HP] <;> iassumption)
    (hglob := glob (KLOf m ρ) (VLOf m ρ))
    (hA := fun _ _ => rfl) (hpf := fun _ k => k.elim0)
    (X := start (KLOf m ρ) (VLOf m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run hold what they held. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

end Cert.Attn
-- ==== Proof.Frames.lean ====
/-
# The frames

From the one run of the four devices, at the two float instances: the argument arrays end unchanged and
every counter reads zero again.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Attn

open Idealize.ShloMosaic Idealize.SL.Sem Cert.KernelIdeal Cert.KernelIdeal.Gen

variable {F : FTy → Type} [FloatOps F]

/-- The run read at the arguments and the result. -/
theorem run_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v1) = finalA m ρ c 5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨h.1 c 5, (h.1 c 0).trans (finalA_in m ρ c 0 rfl), (h.1 c 1).trans (finalA_in m ρ c 1 rfl), (h.1 c 2).trans (finalA_in m ρ c 2 rfl),
      (h.1 c 3).trans (finalA_in m ρ c 3 rfl), (h.1 c 4).trans (finalA_in m ρ c 4 rfl)⟩, h.2⟩) (run_main m ρ)

theorem frame_kernelIdeal : Cert.quiescent_KernelIdeal := fun m ρ _ =>
  (θ_run defs _ _).mono (fun _ h => ⟨fun c => (h.1 c).2, h.2⟩) (run_args (F := Ideal) m ρ)

/-! ## The two printed programs have one text -/

theorem defs₀_eq : (Cert.Kernel.defs₀ (F := F)) = Cert.KernelIdeal.defs₀ (F := F) := by
  unfold Cert.Kernel.defs₀ Cert.KernelIdeal.defs₀
  congr 1
  funext l a
  rcases l with ⟨_ | l, h⟩
  · rcases a with ⟨t, s⟩
    rfl
  · omega

theorem defs_eq : (Cert.Kernel.defs (F := F)) = Cert.KernelIdeal.defs (F := F) := by
  unfold Cert.Kernel.defs Cert.KernelIdeal.defs
  rw [defs₀_eq]
  rfl

theorem frame_kernel : Cert.quiescent_Kernel := by
  intro m ρ _
  rw [defs_eq]
  exact (θ_run Cert.KernelIdeal.defs (onTc (τ := Cert.KernelIdeal.τ) (Cert.KernelIdeal.main (F := Bits))) ⟨m, fun _ => 0, ρ⟩).mono
    (fun _ h => ⟨fun c => (h.1 c).2, h.2⟩) (run_args (F := Bits) m ρ)

theorem frame_reference : Cert.quiescent_ReferenceIdeal := fun m ρ _ =>
  (θ_run Cert.ReferenceIdeal.defs _ _).mono (fun _ h => ⟨fun c => (h c).2, Idealize.ShloMosaic.sem_eq_zero_of_no_sems (by decide) _⟩) (Cert.ReferenceIdeal.Value.run (F := Ideal) m ρ)

end Cert.Attn
-- ==== Proof.Arrays.lean ====
/-
What the body reads and leaves, in terms of the arrays of the program: every window is a whole array.
-/
module

public import proofs.«01_k».proof.Proof.Launch
public import Idealize.ShloMosaic.Lib.Pipeline.ValueKit

@[expose] public section

noncomputable section

namespace Cert.Attn

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

theorem fxOf_eq (c : Dev nD) : fxOf m ρ c = m ((c : Thread nD τ).loc main_arg0) := by
  funext i
  refine congrArg (m ((c : Thread nD τ).loc main_arg0)) (funext fun a => Fin.ext ?_)
  fin_cases a <;> exact (Nat.zero_add _).trans (Nat.one_mul _)

theorem fwOf_eq (c : Dev nD) : fwOf m ρ c = m ((c : Thread nD τ).loc main_arg1) := by
  funext i
  refine congrArg (m ((c : Thread nD τ).loc main_arg1)) (funext fun a => Fin.ext ?_)
  fin_cases a <;> exact (Nat.zero_add _).trans (Nat.one_mul _)

theorem fkOf_eq (c : Dev nD) : fkOf m ρ c = m ((c : Thread nD τ).loc main_arg2) := by
  funext i
  refine congrArg (m ((c : Thread nD τ).loc main_arg2)) (funext fun a => Fin.ext ?_)
  fin_cases a <;> exact (Nat.zero_add _).trans (Nat.one_mul _)

theorem fvOf_eq (c : Dev nD) : fvOf m ρ c = m ((c : Thread nD τ).loc main_arg3) := by
  funext i
  refine congrArg (m ((c : Thread nD τ).loc main_arg3)) (funext fun a => Fin.ext ?_)
  fin_cases a <;> exact (Nat.zero_add _).trans (Nat.one_mul _)

theorem foOf_eq (c : Dev nD) : foOf m ρ c = m ((c : Thread nD τ).loc main_arg4) := by
  funext i
  refine congrArg (m ((c : Thread nD τ).loc main_arg4)) (funext fun a => Fin.ext ?_)
  fin_cases a <;> exact (Nat.zero_add _).trans (Nat.one_mul _)

/-- The result array holds what the body left. -/
theorem final_out (c : Dev nD) : finalA m ρ c 5 = resOf m ρ c :=
  (dats m ρ 0 c).arrAt_eq_of_after_last (5 : Fin 6) t0_0 (by decide +kernel : win0_5.WholeAt (t0_0 : Fin grid0.N)) _ fun j => rfl

end Cert.Attn
-- ==== Proof.HeadSpec.lean ====
/-
One head of one batch as a function of its number: the weights of a block of keys, the two running sums over the four
blocks of keys (the own one, then what arrived in places 0, 2 and 1), and their quotient. The kernel's sixteen written
pieces are this function at the sixteen pairs of a batch and a head.
-/
module

public import proofs.«01_k».proof.Proof.Output

@[expose] public section

noncomputable section

namespace Cert.Attn

open Cert.KernelIdeal Cert.KernelIdeal.Gen
open Idealize.ShloMosaic
open Idealize.ShloMosaic.TcCoe
open Idealize.ShloMosaic.ValueIdx

variable {F : FTy → Type} [FloatOps F]

variable (KL VL : Dev nD → S2x512x512.Idx → Elt F .bf16)
variable (fx : S2x512x768.Idx → Elt F .bf16) (fw : S768x512.Idx → Elt F .bf16)

/-- Where head `h` of batch `b` lies in a two-batch array. -/
theorem head_inb {b h : ℕ} (hb : b < 2) (hh : h < 8) : ∀ a, (![b, 0, 64 * h] : Fin 3 → ℕ) a + S1x512x64.size a ≤ S2x512x512.size a := by
  intro a; fin_cases a <;> simp [S1x512x64, S2x512x512] <;> omega

theorem slot_inb {s b h : ℕ} (hs : s < 3) (hb : b < 2) (hh : h < 8) :
    ∀ a, (![s, b, 0, 64 * h] : Fin 4 → ℕ) a + S1x1x512x64.size a ≤ S3x2x512x512.size a := by
  intro a; fin_cases a <;> simp [S1x1x512x64, S3x2x512x512] <;> omega

/-- The rows of head `h` of batch `b`. -/
noncomputable def headRead (X : S2x512x512.Idx → Elt F .bf16) (b h : ℕ) (hb : b < 2) (hh : h < 8) : FVec F S512x64 .bf16 :=
  shapeCast S512x64 (klM.view.readAt (Elt F) (Rect.unit (s := S2x512x512) ![b, 0, 64 * h] S1x512x64.size (head_inb hb hh)).toLoadRect X) shapeCasts_S1x512x64_S512x64

/-- The same rows of what arrived in place `s`. -/
noncomputable def slotRead (X : S3x2x512x512.Idx → Elt F .bf16) (s b h : ℕ) (hs : s < 3) (hb : b < 2) (hh : h < 8) : FVec F S512x64 .bf16 :=
  shapeCast S512x64 ((Memref.whole cc0_scratch2).view.readAt (Elt F) (Rect.unit (s := S3x2x512x512) ![s, b, 0, 64 * h] S1x1x512x64.size (slot_inb hs hb hh)).toLoadRect X) shapeCasts_S1x1x512x64_S512x64

/-- The weights of a block of keys. -/
noncomputable def blockW (q k : FVec F S512x64 .bf16) : FVec F S512x512 .f32 :=
  select run₁.sl.r (exp (mulf (matmul dot_S512x64_S512x64_S512x512_1_1_0_0_n_n none q k (constant S512x512 .f32 0x00000000#32))
    (broadcast S512x512 (Scalar.ofBits .f32 0x3E000000#32)))) (broadcast S512x512 (Scalar.ofBits .f32 0x00000000#32))

/-- One more block in the weighted sum of the values. -/
noncomputable def accNext (acc : FVec F S512x64 .f32) (w : FVec F S512x512 .f32) (v : FVec F S512x64 .bf16) : FVec F S512x64 .f32 :=
  addf acc (matmul dot_S512x512_S512x64_S512x64_1_0_0_1_n_n none (truncf .bf16 w bitsLt_bf16_f32) v (constant S512x64 .f32 0x00000000#32))

/-- One more block in the sum of the weights. -/
noncomputable def sumNext (l : FVec F S512x1 .f32) (w : FVec F S512x512 .f32) : FVec F S512x1 .f32 :=
  addf l (shapeCast S512x1 (multiReduction .add [1] S512 w 0x00000000#32 reduces_S512x512_S512 (.inl rfl) rfl) shapeCasts_S512_S512x1)

noncomputable def headQ (b h : ℕ) (hb : b < 2) (hh : h < 8) : FVec F S512x64 .bf16 := headRead (qOf fx fw) b h hb hh

noncomputable def wOwn (c : Dev nD) (b h : ℕ) (hb : b < 2) (hh : h < 8) : FVec F S512x512 .f32 :=
  blockW (headQ fx fw b h hb hh) (headRead (KL c) b h hb hh)

noncomputable def wSlot (c : Dev nD) (s : ℕ) (hs : s < 3) (b h : ℕ) (hb : b < 2) (hh : h < 8) : FVec F S512x512 .f32 :=
  blockW (headQ fx fw b h hb hh) (slotRead (gath KL c) s b h hs hb hh)

noncomputable def headAcc (c : Dev nD) (b h : ℕ) (hb : b < 2) (hh : h < 8) : FVec F S512x64 .f32 :=
  accNext (accNext (accNext (accNext (broadcast S512x64 (Scalar.ofBits .f32 0x00000000#32))
    (wOwn KL fx fw c b h hb hh) (headRead (VL c) b h hb hh))
    (wSlot KL fx fw c 0 (by decide) b h hb hh) (slotRead (gath VL c) 0 b h (by decide) hb hh))
    (wSlot KL fx fw c 2 (by decide) b h hb hh) (slotRead (gath VL c) 2 b h (by decide) hb hh))
    (wSlot KL fx fw c 1 (by decide) b h hb hh) (slotRead (gath VL c) 1 b h (by decide) hb hh)

noncomputable def headSum (c : Dev nD) (b h : ℕ) (hb : b < 2) (hh : h < 8) : FVec F S512x1 .f32 :=
  sumNext (sumNext (sumNext (sumNext (broadcast S512x1 (Scalar.ofBits .f32 0x00000000#32))
    (wOwn KL fx fw c b h hb hh))
    (wSlot KL fx fw c 0 (by decide) b h hb hh))
    (wSlot KL fx fw c 2 (by decide) b h hb hh))
    (wSlot KL fx fw c 1 (by decide) b h hb hh)

/-- A head's result. -/
noncomputable def headOut (c : Dev nD) (b h : ℕ) (hb : b < 2) (hh : h < 8) : FVec F S1x512x64 .bf16 :=
  shapeCast S1x512x64 (truncf .bf16 (divf (headAcc KL VL fx fw c b h hb hh)
    (broadcastTo S512x64 (headSum KL fx fw c b h hb hh) broadcasts_S512x1_S512x64)) bitsLt_bf16_f32) shapeCasts_S512x64_S1x512x64

/-- A head's result as a written piece. -/
noncomputable def headPiece (c : Dev nD) (b h : ℕ) (hb : b < 2) (hh : h < 8) : View.Piece (Elt F) S2x512x512 .bf16 :=
  ⟨Rect.unit (s := S2x512x512) ![b, 0, 64 * h] S1x512x64.size (head_inb hb hh), headOut KL VL fx fw c b h hb hh⟩

/-- The first half of the heads, as written. -/
theorem first_half (c : Dev nD) : run₄.sl.H10_8 KL VL fx fw c = [headPiece KL VL fx fw c 1 3 (by decide) (by decide),
    headPiece KL VL fx fw c 1 2 (by decide) (by decide),
    headPiece KL VL fx fw c 1 1 (by decide) (by decide),
    headPiece KL VL fx fw c 1 0 (by decide) (by decide),
    headPiece KL VL fx fw c 0 3 (by decide) (by decide),
    headPiece KL VL fx fw c 0 2 (by decide) (by decide),
    headPiece KL VL fx fw c 0 1 (by decide) (by decide),
    headPiece KL VL fx fw c 0 0 (by decide) (by decide)] := rfl

/-- The second half, written over the first. -/
theorem second_half (c : Dev nD) : run₅.sl.H10_16 KL VL fx fw c = [headPiece KL VL fx fw c 1 7 (by decide) (by decide),
    headPiece KL VL fx fw c 1 6 (by decide) (by decide),
    headPiece KL VL fx fw c 1 5 (by decide) (by decide),
    headPiece KL VL fx fw c 1 4 (by decide) (by decide),
    headPiece KL VL fx fw c 0 7 (by decide) (by decide),
    headPiece KL VL fx fw c 0 6 (by decide) (by decide),
    headPiece KL VL fx fw c 0 5 (by decide) (by decide),
    headPiece KL VL fx fw c 0 4 (by decide) (by decide)] ++ run₄.sl.H10_8 KL VL fx fw c := rfl

end Cert.Attn
-- ==== Proof.RefSpec.lean ====
/-
The reference's result in stages: the blocks of rows, the mask, the masked scores, the weights, the context.
-/
module

public import proofs.«01_k».proof.Proof.Gen.ReferenceIdeal.Run

@[expose] public section

noncomputable section

namespace Cert.Attn.Ref

open Cert.ReferenceIdeal Cert.ReferenceIdeal.Gen
open Idealize.ShloMosaic
open Idealize.ShloMosaic.TcCoe

variable {F : FTy → Type} [FloatOps F]

/-- The block of each position: its number divided by 64, rounded down. -/
noncomputable def block : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32)))) (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))

/-- The number of classes, guarded against zero. -/
noncomputable def four : IVec S_ 32 :=
  select (cmpi .eq (id (constantI S_ 32 4#32)) (constantI S_ 32 0#32)) (constantI S_ 32 1#32) (id (constantI S_ 32 4#32))

/-- The remainder with the sign of the divisor, of an array at the shape `T`. -/
noncomputable def remOf (T : Shape) (h : S_.BroadcastsInDim T ![]) (x : IVec T 32) : IVec T 32 :=
  select (andi (cmpi .ne (cmpi .slt (Host.remsi x (broadcastInDim T ![] h four)) (broadcastInDim T ![] h (constantI S_ 32 0#32)))
        (broadcastInDim T ![] h (cmpi .slt four (constantI S_ 32 0#32))))
      (cmpi .ne (Host.remsi x (broadcastInDim T ![] h four)) (broadcastInDim T ![] h (constantI S_ 32 0#32))))
    (addi (Host.remsi x (broadcastInDim T ![] h four)) (broadcastInDim T ![] h four))
    (Host.remsi x (broadcastInDim T ![] h four))

noncomputable def rowBlock : IVec S2048x1 32 := broadcastInDim S2048x1 ![0] bcast_S2048_S2048x1_0 block
noncomputable def colBlock : IVec S1x2048 32 := broadcastInDim S1x2048 ![1] bcast_S2048_S1x2048_1 block

/-- Which keys a query sees. -/
noncomputable def mask : IVec S2048x2048 1 :=
  ori (cmpi .eq (broadcastInDim S2048x2048 ![0, 1] bcast_S2048x1_S2048x2048_0_1 rowBlock) (broadcastInDim S2048x2048 ![0, 1] bcast_S1x2048_S2048x2048_0_1 colBlock))
    (cmpi .eq (broadcastInDim S2048x2048 ![0, 1] bcast_S1x2048_S2048x2048_0_1 (remOf S1x2048 bcast_S_S1x2048 colBlock))
      (broadcastInDim S2048x2048 ![0, 1] bcast_S2048x1_S2048x2048_0_1 (remOf S2048x1 bcast_S_S2048x1 rowBlock)))

/-- Whether a query sees any key. -/
noncomputable def keep : IVec S2048 1 := Host.reduce IntOp.ori mask (constantI S_ 1 0#1) reducesTo_S2048x2048_S2048_d1 h_S_

noncomputable def keep4 : IVec S1x1x2048x1 1 := broadcastInDim S1x1x2048x1 ![2] bcast_S2048_S1x1x2048x1_2 keep

variable (x : FVec F S2x2048x768 .bf16) (wq : FVec F S768x512 .bf16) (k v : FVec F S2x2048x8x64 .bf16) (wo : FVec F S512x768 .bf16)

/-- The scores, before the mask. -/
noncomputable def scores : FVec F S2x8x2048x2048 .f32 :=
  mulf (extf .f32 (truncf .bf16 (Host.dotGeneral dot_S2x2048x8x64_S2x2048x8x64_S2x8x2048x2048_3_3_1_1_02_02 none
      (shapeCast S2x2048x8x64 (extf .f32 (truncf .bf16 (Host.dotGeneral dot_S2x2048x768_S768x512_S2x2048x512_2_0_01_1_n_n none (extf .f32 x bitsLt_bf16_f32) (extf .f32 wq bitsLt_bf16_f32) : FVec F S2x2048x512 .f32) bitsLt_bf16_f32) bitsLt_bf16_f32) shapeCasts_S2x2048x512_S2x2048x8x64)
      (extf .f32 k bitsLt_bf16_f32)) bitsLt_bf16_f32) bitsLt_bf16_f32)
    (broadcastInDim S2x8x2048x2048 ![] bcast_S_S2x8x2048x2048 (constant S_ .f32 0x3E000000#32))

/-- The scores, minus infinity where the mask hides the key. -/
noncomputable def masked : FVec F S2x8x2048x2048 .f32 :=
  select (broadcastInDim S2x8x2048x2048 ![0, 1, 2, 3] bcast_S1x1x2048x2048_S2x8x2048x2048_0_1_2_3 (broadcastInDim S1x1x2048x2048 ![2, 3] bcast_S2048x2048_S1x1x2048x2048_2_3 mask))
    (scores x wq k) (broadcastInDim S2x8x2048x2048 ![] bcast_S_S2x8x2048x2048 (id (constant S_ .f32 0xFF800000#32)))

/-- The greatest score of a row. -/
noncomputable def top : FVec F S2x8x2048 .f32 :=
  Host.reduce FloatOps.maximumf (masked x wq k) (constant S_ .f32 0xFF800000#32) reducesTo_S2x8x2048x2048_S2x8x2048_d3 h_S_

/-- The exponentials of the scores less the greatest. -/
noncomputable def expo : FVec F S2x8x2048x2048 .f32 :=
  Host.exp (subf (masked x wq k) (broadcastInDim S2x8x2048x2048 ![0, 1, 2, 3] bcast_S2x8x2048x1_S2x8x2048x2048_0_1_2_3
    (broadcastInDim S2x8x2048x1 ![0, 1, 2] bcast_S2x8x2048_S2x8x2048x1_0_1_2 (top x wq k))))

/-- Their sum along a row. -/
noncomputable def total : FVec F S2x8x2048 .f32 :=
  Host.reduceAdd (expo x wq k) (constant S_ .f32 0x00000000#32) reducesTo_S2x8x2048x2048_S2x8x2048_d3 h_S_

/-- The weights. -/
noncomputable def weights : FVec F S2x8x2048x2048 .f32 :=
  select (broadcastInDim S2x8x2048x2048 ![0, 1, 2, 3] bcast_S1x1x2048x1_S2x8x2048x2048_0_1_2_3 keep4)
    (Host.divf (expo x wq k) (broadcastInDim S2x8x2048x2048 ![0, 1, 2, 3] bcast_S2x8x2048x1_S2x8x2048x2048_0_1_2_3
      (select (broadcastInDim S2x8x2048x1 ![0, 1, 2, 3] bcast_S1x1x2048x1_S2x8x2048x1_0_1_2_3 keep4)
        (broadcastInDim S2x8x2048x1 ![0, 1, 2] bcast_S2x8x2048_S2x8x2048x1_0_1_2 (total x wq k))
        (broadcastInDim S2x8x2048x1 ![] bcast_S_S2x8x2048x1 (id (constant S_ .f32 0x3F800000#32))))))
    (broadcastInDim S2x8x2048x2048 ![] bcast_S_S2x8x2048x2048 (id (constant S_ .f32 0x00000000#32)))

/-- The context: the weighted values, head by head. -/
noncomputable def context : FVec F S2x8x64x2048 .f32 :=
  Host.dotGeneral dot_S2x2048x8x64_S2x8x2048x2048_S2x8x64x2048_1_3_3_2_02_01 none (extf .f32 v bitsLt_bf16_f32) (weights x wq k)

/-- The result. -/
noncomputable def out : FVec F S2x2048x768 .bf16 :=
  truncf .bf16 (Host.dotGeneral dot_S2x2048x512_S512x768_S2x2048x768_2_0_01_1_n_n none
    (shapeCast S2x2048x512 (transpose S2x2048x8x64 [0, 3, 1, 2] (context x wq k v) transposes_S2x8x64x2048_S2x2048x8x64_0_3_1_2) shapeCasts_S2x2048x8x64_S2x2048x512)
    (extf .f32 wo bitsLt_bf16_f32)) bitsLt_bf16_f32

set_option maxRecDepth 8192 in
theorem out_eq (m : (ℓ : Loc nD τ sig) → Buf (Elt F) ℓ) (c : Dev nD) :
    Cert.ReferenceIdeal.Value.res_main_v49 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.Attn.Ref
-- ==== Proof.RefMask.lean ====
/-
Which keys the reference's queries see, as a fact about the numbers of their rows.
-/
module

public import proofs.«01_k».proof.Proof.RefSpec
public import Idealize.ShloMosaic.PureOps.Ideal
public import Idealize.ShloMosaic.Lib.Pointwise
public import Idealize.ShloMosaic.Lib.Routing.OpsOrder

@[expose] public section

noncomputable section

namespace Cert.Attn.Ref

open Cert.ReferenceIdeal Cert.ReferenceIdeal.Gen
open Idealize.ShloMosaic
open Idealize.ShloMosaic.TcCoe

/-- Which keys a query sees: those whose block has the same number modulo four. -/
def Sees (i j : ℕ) : Prop := i / 64 % 4 = j / 64 % 4

instance (i j : ℕ) : Decidable (Sees i j) := inferInstanceAs (Decidable (_ = _))

theorem block_apply (i : Fin 2048) : block (ix1 i) = BitVec.ofNat 32 (i.val / 64) := by
  pointwise [block]
  revert i
  decide +kernel

/-- The word of the remainder by four, of a small number. -/
theorem rem_word (n : Fin 32) (c : IVec S_ 32) (hc : c = fun _ => 4#32) :
    Scalar.select (IntOp.andi (IntOp.cmpi .ne (IntOp.cmpi .slt (IntOp.remsi .host (BitVec.ofNat 32 n.val) (c ix0)) 0#32) (IntOp.cmpi .slt (c ix0) 0#32))
        (IntOp.cmpi .ne (IntOp.remsi .host (BitVec.ofNat 32 n.val) (c ix0)) 0#32))
      (IntOp.addi (IntOp.remsi .host (BitVec.ofNat 32 n.val) (c ix0)) (c ix0)) (IntOp.remsi .host (BitVec.ofNat 32 n.val) (c ix0))
      = BitVec.ofNat 32 (n.val % 4) := by
  subst hc
  revert n
  decide +kernel

theorem four_eq : four = fun _ => 4#32 := by
  funext i; rfl

theorem rem_row (i : Fin 2048) : remOf S2048x1 bcast_S_S2048x1 rowBlock (ix2 i (0 : Fin 1)) = BitVec.ofNat 32 (i.val / 64 % 4) := by
  have := rem_word ⟨i.val / 64, by omega⟩ four four_eq
  pointwise [remOf, rowBlock, block_apply]
  exact this

theorem rem_col (i : Fin 2048) : remOf S1x2048 bcast_S_S1x2048 colBlock (ix2 (0 : Fin 1) i) = BitVec.ofNat 32 (i.val / 64 % 4) := by
  have := rem_word ⟨i.val / 64, by omega⟩ four four_eq
  pointwise [remOf, colBlock, block_apply]
  exact this

theorem word_eq {a b : ℕ} (ha : a < 32) (hb : b < 32) : BitVec.ofNat 32 a = BitVec.ofNat 32 b ↔ a = b := by
  constructor
  · intro h
    have := congrArg BitVec.toNat h
    simp only [BitVec.toNat_ofNat] at this
    omega
  · rintro rfl; rfl

theorem cmpi_eq {w : ℕ} (a b : BitVec w) : IntOp.cmpi .eq a b = if a = b then 1#1 else 0#1 := by
  unfold IntOp.cmpi
  by_cases h : a = b <;> simp [h, BitVec.ofBool] <;> simp [beq_eq_false_iff_ne.mpr h]

theorem mask_apply (i j : Fin 2048) : mask (ix2 i j) = if Sees i.val j.val then 1#1 else 0#1 := by
  have h : mask (ix2 i j) = IntOp.ori (IntOp.cmpi .eq (block (ix1 i)) (block (ix1 j)))
      (IntOp.cmpi .eq (remOf S1x2048 bcast_S_S1x2048 colBlock (ix2 (0 : Fin 1) j)) (remOf S2048x1 bcast_S_S2048x1 rowBlock (ix2 i (0 : Fin 1)))) := by
    pointwise [mask]
    rfl
  have hi := i.isLt; have hj := j.isLt
  rw [h, block_apply, block_apply, rem_col, rem_row, cmpi_eq, cmpi_eq]
  simp only [word_eq (show i.val / 64 < 32 by omega) (show j.val / 64 < 32 by omega),
    word_eq (show j.val / 64 % 4 < 32 by omega) (show i.val / 64 % 4 < 32 by omega)]
  by_cases h2 : Sees i.val j.val
  · rw [if_pos h2, if_pos (show j.val / 64 % 4 = i.val / 64 % 4 from Eq.symm h2)]
    split <;> rfl
  · rw [if_neg h2, if_neg (show ¬ j.val / 64 % 4 = i.val / 64 % 4 from fun e => h2 e.symm),
      if_neg (show ¬ i.val / 64 = j.val / 64 from fun e => h2 (congrArg (· % 4) e))]
    rfl

theorem keep_apply (i : Fin 2048) : keep (ix1 i) = 1#1 := by
  pointwise [keep]
  rw [Routing.fold_ori]
  exact ⟨i, Finset.mem_univ _, by rw [mask_apply, if_pos (show Sees i.val i.val from rfl)]⟩

end Cert.Attn.Ref
-- ==== Proof.KernelMask.lean ====
/-
Which keys of a block the kernel's queries see: the class of a row is the same integer chain on both sides of the
comparison, and on the numbers of the rows it is the number of the row's block modulo four.
-/
module

public import proofs.«01_k».proof.Proof.HeadSpec
public import proofs.«01_k».proof.Proof.RefMask

@[expose] public section

noncomputable section

namespace Cert.Attn

open Cert.KernelIdeal Cert.KernelIdeal.Gen
open Idealize.ShloMosaic

/-- The quotient of a word by 64, rounded down. -/
def quo (n : BitVec 32) : BitVec 32 :=
  Scalar.select (IntOp.andi (IntOp.cmpi .ne (IntOp.subi (BitVec.setWidth 32 (IntOp.cmpi .sgt n 0#32)) (BitVec.setWidth 32 (IntOp.cmpi .slt n 0#32)))
      (IntOp.subi (BitVec.setWidth 32 (IntOp.cmpi .sgt 64#32 0#32)) (BitVec.setWidth 32 (IntOp.cmpi .slt 64#32 0#32))))
      (IntOp.cmpi .ne (IntOp.remsi .vector n 64#32) 0#32))
    (IntOp.subi (IntOp.divsi .vector n 64#32) 1#32) (IntOp.divsi .vector n 64#32)

/-- The remainder of a word by 4, of the divisor's sign. -/
def rest (n : BitVec 32) : BitVec 32 :=
  Scalar.select (IntOp.andi (IntOp.xori (IntOp.cmpi .slt (IntOp.remsi .vector n 4#32) 0#32) (IntOp.cmpi .slt 4#32 0#32)) (IntOp.cmpi .ne (IntOp.remsi .vector n 4#32) 0#32))
    (IntOp.addi (IntOp.remsi .vector n 4#32) 4#32) (IntOp.remsi .vector n 4#32)

theorem class_word (n : Fin 512) : rest (quo (BitVec.ofNat 32 n.val)) = BitVec.ofNat 32 (n.val / 64 % 4) := by
  revert n
  decide +kernel

theorem kmask_apply (i j : Fin 512) : run₁.sl.r (ix2 i j) = if Ref.Sees i.val j.val then 1#1 else 0#1 := by
  have h : run₁.sl.r (ix2 i j) = IntOp.cmpi .eq (rest (quo (BitVec.ofNat 32 (0 * 512 + i.val)))) (rest (quo (BitVec.ofNat 32 (0 * 512 + j.val)))) := rfl
  have hi := i.isLt; have hj := j.isLt
  rw [h, Nat.zero_mul, Nat.zero_add, Nat.zero_add, class_word, class_word, Ref.cmpi_eq]
  simp only [Ref.word_eq (show i.val / 64 % 4 < 32 by omega) (show j.val / 64 % 4 < 32 by omega)]
  rfl

end Cert.Attn
-- ==== Proof.HeadValue.lean ====
/-
One head of the kernel at the ideal values, element by element.
-/
module

public import proofs.«01_k».proof.Proof.KernelMask
public import Idealize.ShloMosaic.Lib.Pointwise

@[expose] public section

noncomputable section

namespace Cert.Attn

open Cert.KernelIdeal Cert.KernelIdeal.Gen
open Idealize.ShloMosaic
open Idealize.ShloMosaic.TcCoe

theorem blockW_masked (r : IVec S512x512 1) (q k : FVec Ideal S512x64 .bf16) (i j : Fin 512) :
    select r (exp (mulf (matmul dot_S512x64_S512x64_S512x512_1_1_0_0_n_n none q k (constant S512x512 .f32 0x00000000#32))
      (broadcast S512x512 (Scalar.ofBits (F := Ideal) .f32 0x3E000000#32)))) (broadcast S512x512 (Scalar.ofBits (F := Ideal) .f32 0x00000000#32)) (ix2 i j)
      = Scalar.select (r (ix2 i j)) (Ideal.exp ((∑ d : Fin 64, q (ix2 i d) * k (ix2 j d)) * Ideal.ofBits .f32 0x3E000000#32)) (0 : EReal) := by
  pointwise

theorem blockW_apply (q k : FVec Ideal S512x64 .bf16) (i j : Fin 512) :
    blockW q k (ix2 i j) = if Ref.Sees i.val j.val then Ideal.exp ((∑ d : Fin 64, q (ix2 i d) * k (ix2 j d)) * Ideal.ofBits .f32 0x3E000000#32) else (0 : EReal) := by
  refine (blockW_masked _ q k i j).trans ?_
  rw [kmask_apply]
  split <;> rfl

theorem accNext_apply (acc : FVec Ideal S512x64 .f32) (w : FVec Ideal S512x512 .f32) (v : FVec Ideal S512x64 .bf16) (i : Fin 512) (d : Fin 64) :
    accNext acc w v (ix2 i d) = acc (ix2 i d) + ∑ j : Fin 512, w (ix2 i j) * v (ix2 j d) := by
  pointwise [accNext]

theorem sumNext_apply (l : FVec Ideal S512x1 .f32) (w : FVec Ideal S512x512 .f32) (i : Fin 512) :
    sumNext l w (ix2 i (0 : Fin 1)) = l (ix2 i (0 : Fin 1)) + ∑ j : Fin 512, w (ix2 i j) := by
  pointwise [sumNext]

theorem quot_apply (a : FVec Ideal S512x64 .f32) (l : FVec Ideal S512x1 .f32) (i : Fin 512) (d : Fin 64) :
    shapeCast S1x512x64 (truncf .bf16 (divf a (broadcastTo S512x64 l broadcasts_S512x1_S512x64)) bitsLt_bf16_f32) shapeCasts_S512x64_S1x512x64 (ix3 (0 : Fin 1) i d)
      = Ideal.div (a (ix2 i d)) (l (ix2 i (0 : Fin 1))) := by
  pointwise

theorem cast_head (v : FVec Ideal S1x512x64 .bf16) (i : Fin 512) (d : Fin 64) :
    shapeCast S512x64 v shapeCasts_S1x512x64_S512x64 (ix2 i d) = v (ix3 (0 : Fin 1) i d) := by
  pointwise

theorem cast_slot (v : FVec Ideal S1x1x512x64 .bf16) (i : Fin 512) (d : Fin 64) :
    shapeCast S512x64 v shapeCasts_S1x1x512x64_S512x64 (ix2 i d) = v (ix4 (0 : Fin 1) (0 : Fin 1) i d) := by
  pointwise

theorem headRead_apply (X : S2x512x512.Idx → Elt Ideal .bf16) (b : Fin 2) (h : Fin 8) (i : Fin 512) (d : Fin 64) :
    headRead X b.val h.val b.isLt h.isLt (ix2 i d) = X (ix3 b i ⟨h.val * 64 + d.val, by omega⟩) := by
  refine (cast_head _ i d).trans (congrArg X (funext fun a => Fin.ext ?_))
  fin_cases a
  · show b.val + 1 * 0 = b.val; omega
  · show 0 + 1 * i.val = i.val; omega
  · show 64 * h.val + 1 * d.val = h.val * 64 + d.val; omega

theorem slotRead_apply (X : S3x2x512x512.Idx → Elt Ideal .bf16) (s : Fin 3) (b : Fin 2) (h : Fin 8) (i : Fin 512) (d : Fin 64) :
    slotRead X s.val b.val h.val s.isLt b.isLt h.isLt (ix2 i d) = X (ix4 s b i ⟨h.val * 64 + d.val, by omega⟩) := by
  refine (cast_slot _ i d).trans (congrArg X (funext fun a => Fin.ext ?_))
  fin_cases a
  · show s.val + 1 * 0 = s.val; omega
  · show b.val + 1 * 0 = b.val; omega
  · show 0 + 1 * i.val = i.val; omega
  · show 64 * h.val + 1 * d.val = h.val * 64 + d.val; omega

theorem proj_apply (x : FVec Ideal S1x512x768 .bf16) (w : FVec Ideal S768x512 .bf16) (i : Fin 512) (t : Fin 512) :
    k0_pay3 x w (ix3 (0 : Fin 1) i t) = ∑ e : Fin 768, x (ix3 (0 : Fin 1) i e) * w (ix2 e t) := by
  pointwise [k0_pay3]

theorem qOf_apply (fx : S2x512x768.Idx → Elt Ideal .bf16) (fw : S768x512.Idx → Elt Ideal .bf16) (b : Fin 2) (i : Fin 512) (t : Fin 512) :
    qOf fx fw (ix3 b i t) = ∑ e : Fin 768, fx (ix3 b i e) * fw (ix2 e t) := by
  have := proj_apply (fun j : S1x512x768.Idx => fx (ValueIdx.ix3 b (j 1) (j 2))) fw i t
  rw [ix3_eq_valueIdx] at this
  refine Eq.trans this ?_
  simp only [ix3_eq_valueIdx]

theorem gath_apply (X : Dev nD → S2x512x512.Idx → Elt Ideal .bf16) (c : Dev nD) (s : Fin 3) (b : Fin 2) (i t : Fin 512) :
    gath X c (ix4 s b i t) = X (srcD c s b) (ix3 b i t) := by
  rw [ix3_eq_valueIdx]; rfl

variable (KL VL : Dev nD → S2x512x512.Idx → Elt Ideal .bf16)
variable (fx : S2x512x768.Idx → Elt Ideal .bf16) (fw : S768x512.Idx → Elt Ideal .bf16)

/-- The score of a query and a key of device `e`. -/
def kscore (e : Dev nD) (b : Fin 2) (h : Fin 8) (i j : Fin 512) : EReal :=
  (∑ d : Fin 64, (∑ u : Fin 768, fx (ix3 b i u) * fw (ix2 u ⟨h.val * 64 + d.val, by omega⟩)) * KL e (ix3 b j ⟨h.val * 64 + d.val, by omega⟩)) * Ideal.ofBits .f32 0x3E000000#32

/-- The weight of a key of device `e`. -/
def kweight (e : Dev nD) (b : Fin 2) (h : Fin 8) (i j : Fin 512) : EReal :=
  if Ref.Sees i.val j.val then Ideal.exp (kscore KL fx fw e b h i j) else 0

theorem wOwn_apply (c : Dev nD) (b : Fin 2) (h : Fin 8) (i j : Fin 512) :
    wOwn KL fx fw c b.val h.val b.isLt h.isLt (ix2 i j) = kweight KL fx fw c b h i j := by
  refine (blockW_apply _ _ i j).trans ?_
  unfold kweight kscore headQ
  simp only [headRead_apply, qOf_apply]

theorem wSlot_apply (c : Dev nD) (s : Fin 3) (b : Fin 2) (h : Fin 8) (i j : Fin 512) :
    wSlot KL fx fw c s.val s.isLt b.val h.val b.isLt h.isLt (ix2 i j) = kweight KL fx fw (srcD c s b) b h i j := by
  refine (blockW_apply _ _ i j).trans ?_
  unfold kweight kscore headQ
  simp only [headRead_apply, qOf_apply, slotRead_apply, gath_apply]

/-- The weighted sum of the values of device `e`. -/
def accOf (b : Fin 2) (h : Fin 8) (i : Fin 512) (d : Fin 64) (e : Dev nD) : EReal :=
  ∑ j : Fin 512, kweight KL fx fw e b h i j * VL e (ix3 b j ⟨h.val * 64 + d.val, by omega⟩)

/-- The sum of the weights of device `e`. -/
def sumOf (b : Fin 2) (h : Fin 8) (i : Fin 512) (e : Dev nD) : EReal := ∑ j : Fin 512, kweight KL fx fw e b h i j

theorem headAcc_apply (c : Dev nD) (b : Fin 2) (h : Fin 8) (i : Fin 512) (d : Fin 64) :
    headAcc KL VL fx fw c b.val h.val b.isLt h.isLt (ix2 i d)
      = 0 + accOf KL VL fx fw b h i d c + accOf KL VL fx fw b h i d (srcD c 0 b) + accOf KL VL fx fw b h i d (srcD c 2 b) + accOf KL VL fx fw b h i d (srcD c 1 b) := by
  unfold headAcc accOf
  have w0 := wSlot_apply KL fx fw c 0 b h
  have w1 := wSlot_apply KL fx fw c 1 b h
  have w2 := wSlot_apply KL fx fw c 2 b h
  have v0 := slotRead_apply (gath VL c) 0 b h
  have v1 := slotRead_apply (gath VL c) 1 b h
  have v2 := slotRead_apply (gath VL c) 2 b h
  simp only [Fin.val_zero, Fin.val_one, Fin.val_two] at w0 w1 w2 v0 v1 v2
  simp only [accNext_apply, wOwn_apply, w0, w1, w2, v0, v1, v2, headRead_apply, gath_apply]
  congr 4
  exact Ideal.ofBits_zero_f32

theorem headSum_apply (c : Dev nD) (b : Fin 2) (h : Fin 8) (i : Fin 512) :
    headSum KL fx fw c b.val h.val b.isLt h.isLt (ix2 i (0 : Fin 1))
      = 0 + sumOf KL fx fw b h i c + sumOf KL fx fw b h i (srcD c 0 b) + sumOf KL fx fw b h i (srcD c 2 b) + sumOf KL fx fw b h i (srcD c 1 b) := by
  unfold headSum sumOf
  have w0 := wSlot_apply KL fx fw c 0 b h
  have w1 := wSlot_apply KL fx fw c 1 b h
  have w2 := wSlot_apply KL fx fw c 2 b h
  simp only [Fin.val_zero, Fin.val_one, Fin.val_two] at w0 w1 w2
  simp only [sumNext_apply, wOwn_apply, w0, w1, w2]
  congr 4
  exact Ideal.ofBits_zero_f32

/-- The own device and the three others are all the devices, whichever way round the ring they came. -/
theorem all_devices (f : Dev nD → EReal) (c : Dev nD) (b : Fin 2) :
    0 + f c + f (srcD c 0 b) + f (srcD c 2 b) + f (srcD c 1 b) = ∑ e : Fin 4, f e := by
  have hp : ∀ (c : Dev nD) (b : Fin 2), List.Perm [c, srcD c 0 b, srcD c 2 b, srcD c 1 b] [(0 : Fin 4), 1, 2, 3] := by decide
  have h := ((hp c b).map f).sum_eq
  rw [Fin.sum_univ_four, zero_add]
  simp only [List.map_cons, List.map_nil, List.sum_cons, List.sum_nil, add_zero, ← add_assoc] at h
  exact h

/-- A head's result: a quotient of sums over all devices. -/
theorem headOut_apply (c : Dev nD) (b : Fin 2) (h : Fin 8) (i : Fin 512) (d : Fin 64) :
    headOut KL VL fx fw c b.val h.val b.isLt h.isLt (ix3 (0 : Fin 1) i d)
      = Ideal.div (∑ e : Fin 4, accOf KL VL fx fw b h i d e) (∑ e : Fin 4, sumOf KL fx fw b h i e) := by
  refine (quot_apply _ _ i d).trans ?_
  rw [headAcc_apply, headSum_apply, all_devices, all_devices]

end Cert.Attn
-- ==== Proof.Columns.lean ====
/-
The output of a device at the ideal values: the heads' results side by side, times the output projection.
-/
module

public import proofs.«01_k».proof.Proof.HeadValue
public import Idealize.ShloMosaic.Lib.WritesUnit

@[expose] public section

noncomputable section

namespace Cert.Attn

open Cert.KernelIdeal Cert.KernelIdeal.Gen
open Idealize.ShloMosaic
open Idealize.ShloMosaic.TcCoe

variable (KL VL : Dev nD → S2x512x512.Idx → Elt Ideal .bf16)
variable (fx : S2x512x768.Idx → Elt Ideal .bf16) (fw : S768x512.Idx → Elt Ideal .bf16) (fo : S512x768.Idx → Elt Ideal .bf16)

/-- A head's result at a row and a lane. -/
def headVal (b : Fin 2) (h : Fin 8) (i : Fin 512) (d : Fin 64) : EReal :=
  Ideal.div (∑ e : Fin 4, accOf KL VL fx fw b h i d e) (∑ e : Fin 4, sumOf KL fx fw b h i e)

/-- The heads side by side. -/
def heads (i : S2x512x512.Idx) : EReal :=
  headVal KL VL fx fw (i 0) ⟨(i 2).val / 64, Nat.div_lt_of_lt_mul (i 2).isLt⟩ (i 1) ⟨(i 2).val % 64, Nat.mod_lt _ (by decide)⟩

/-- The written piece of a pair of a batch and a head. -/
def pieceOf (c : Dev nD) (p : Fin 2 × Fin 8) : View.Piece (Elt Ideal) S2x512x512 .bf16 :=
  headPiece KL VL fx fw c p.1.val p.2.val p.1.isLt p.2.isLt

theorem piece_heads (c : Dev nD) (p : Fin 2 × Fin 8) (x : (pieceOf KL VL fx fw c p).1.shape.Idx) :
    (pieceOf KL VL fx fw c p).2 x = heads KL VL fx fw ((pieceOf KL VL fx fw c p).1.emb x) := by
  obtain ⟨b, h⟩ := p
  have h0 : (x 0).val < 1 := (x 0).isLt
  have h1 : (x 1).val < 512 := (x 1).isLt
  have h2 : (x 2).val < 64 := (x 2).isLt
  have hx : x = ix3 (0 : Fin 1) (⟨(x 1).val, h1⟩ : Fin 512) (⟨(x 2).val, h2⟩ : Fin 64) := by
    funext a; apply Fin.ext
    fin_cases a
    · show (x 0).val = 0; omega
    · rfl
    · rfl
  have e0 : (((pieceOf KL VL fx fw c (b, h)).1.emb x) 0 : Fin 2) = b := Fin.ext (by show b.val + 1 * (x 0).val = b.val; omega)
  have e1 : (((pieceOf KL VL fx fw c (b, h)).1.emb x) 1 : Fin 512) = ⟨(x 1).val, h1⟩ := Fin.ext (by show 0 + 1 * (x 1).val = (x 1).val; omega)
  have e2 : (((pieceOf KL VL fx fw c (b, h)).1.emb x) 2).val = 64 * h.val + (x 2).val := by
    show 64 * h.val + 1 * (x 2).val = _; omega
  have lhs : (pieceOf KL VL fx fw c (b, h)).2 x = headVal KL VL fx fw b h ⟨(x 1).val, h1⟩ ⟨(x 2).val, h2⟩ :=
    (congrArg (headOut KL VL fx fw c b.val h.val b.isLt h.isLt) hx).trans (headOut_apply KL VL fx fw c b h _ _)
  rw [lhs]
  show headVal KL VL fx fw b h _ _ = headVal KL VL fx fw _ _ _ _
  congr 1
  · exact e0.symm
  · apply Fin.ext; show h.val = _ / 64; rw [e2]; omega
  · exact e1.symm
  · apply Fin.ext; show (x 2).val = _ % 64; rw [e2]; omega

/-- The heads are in the written buffer wherever a piece was written. -/
theorem read_heads (c : Dev nD) (ps : List (Fin 2 × Fin 8)) (B : LoadRect S2x512x512) (j : B.shape.Idx)
    (b : Fin 2) (i : Fin 512) (t : Fin 512) (hj : B.idx j = ix3 b i t) (hm : (b, (⟨t.val / 64, by omega⟩ : Fin 8)) ∈ ps) :
    qM.view.readCov (ps.map (pieceOf KL VL fx fw c)) B j = heads KL VL fx fw (ix3 b i t) := by
  show qM.view.read (Elt Ideal) _ (B.idx j) = _
  rw [hj]
  refine View.read_writes_apply_of_pieces (Val := Elt Ideal) qM.view _ (heads KL VL fx fw) _ ?_ _ ?_
  · intro p hp x
    obtain ⟨q, _, rfl⟩ := List.mem_map.mp hp
    exact piece_heads KL VL fx fw c q x
  · refine ⟨_, List.mem_map_of_mem hm, ?_⟩
    show ix3 b i t ∈ (Rect.unit (s := S2x512x512) ![b.val, 0, 64 * (t.val / 64)] S1x512x64.size (head_inb b.isLt (by omega))).set
    refine Rect.mem_set_unit.mpr fun a => ?_
    have := t.isLt; have := i.isLt
    fin_cases a
    · show b.val ≤ b.val ∧ b.val < b.val + 1; omega
    · show 0 ≤ i.val ∧ i.val < 0 + 512; omega
    · show 64 * (t.val / 64) ≤ t.val ∧ t.val < 64 * (t.val / 64) + 64; omega

theorem first_list (c : Dev nD) : run₄.sl.H10_8 KL VL fx fw c
    = [(1, 3), (1, 2), (1, 1), (1, 0), (0, 3), (0, 2), (0, 1), (0, 0)].map (pieceOf KL VL fx fw c) := first_half KL VL fx fw c

theorem all_list (c : Dev nD) : run₅.sl.H10_16 KL VL fx fw c
    = [(1, 7), (1, 6), (1, 5), (1, 4), (0, 7), (0, 6), (0, 5), (0, 4), (1, 3), (1, 2), (1, 1), (1, 0), (0, 3), (0, 2), (0, 1), (0, 0)].map (pieceOf KL VL fx fw c) := by
  rw [second_half, first_half]; rfl

theorem all_mem : ∀ (b : Fin 2) (h : Fin 8), (b, h) ∈ [((1, 7) : Fin 2 × Fin 8), (1, 6), (1, 5), (1, 4), (0, 7), (0, 6), (0, 5), (0, 4), (1, 3), (1, 2), (1, 1), (1, 0), (0, 3), (0, 2), (0, 1), (0, 0)] := by
  decide

theorem first_mem : ∀ (b : Fin 2) (h : Fin 8), h.val < 4 → (b, h) ∈ [((1, 3) : Fin 2 × Fin 8), (1, 2), (1, 1), (1, 0), (0, 3), (0, 2), (0, 1), (0, 0)] := by
  decide

/-- Where a box of a batch's rows and half of its columns lies. -/
theorem box_idx {b o : ℕ} (inb : ∀ a, (![b, 0, o] : Fin 3 → ℕ) a + S1x512x256.size a ≤ S2x512x512.size a) (hb : b < 2) (ho : o ≤ 256)
    (i : Fin 512) (t : Fin 256) :
    (Rect.unit (s := S2x512x512) ![b, 0, o] S1x512x256.size inb).toLoadRect.idx (ix3 (0 : Fin 1) i t)
      = ix3 (⟨b, hb⟩ : Fin 2) i (⟨o + t.val, by omega⟩ : Fin 512) := by
  funext a; apply Fin.ext
  fin_cases a
  · show b + 1 * 0 = b; omega
  · show 0 + 1 * i.val = i.val; omega
  · show o + 1 * t.val = o + t.val; omega

theorem low_columns (c : Dev nD) (i : Fin 512) (t : Fin 256) :
    run₄.sl.v1472 KL VL fx fw c (ix3 (0 : Fin 1) i t) = heads KL VL fx fw (ix3 (0 : Fin 2) i (⟨0 + t.val, by omega⟩ : Fin 512))
      ∧ run₄.sl.v1479 KL VL fx fw c (ix3 (0 : Fin 1) i t) = heads KL VL fx fw (ix3 (1 : Fin 2) i (⟨0 + t.val, by omega⟩ : Fin 512)) := by
  have hm : ∀ b : Fin 2, (b, (⟨(0 + t.val) / 64, by omega⟩ : Fin 8)) ∈ _ := fun b => first_mem b _ (by show (0 + t.val) / 64 < 4; omega)
  constructor
  · unfold run₄.sl.v1472
    rw [first_list]
    exact read_heads KL VL fx fw c _ _ _ 0 i _ (box_idx _ (by decide) (by decide) i t) (hm 0)
  · unfold run₄.sl.v1479
    rw [first_list]
    exact read_heads KL VL fx fw c _ _ _ 1 i _ (box_idx _ (by decide) (by decide) i t) (hm 1)

theorem high_columns (c : Dev nD) (i : Fin 512) (t : Fin 256) :
    run₅.sl.v1712 KL VL fx fw c (ix3 (0 : Fin 1) i t) = heads KL VL fx fw (ix3 (0 : Fin 2) i (⟨256 + t.val, by omega⟩ : Fin 512))
      ∧ run₅.sl.v1722 KL VL fx fw c (ix3 (0 : Fin 1) i t) = heads KL VL fx fw (ix3 (1 : Fin 2) i (⟨256 + t.val, by omega⟩ : Fin 512)) := by
  constructor
  · unfold run₅.sl.v1712
    rw [all_list]
    exact read_heads KL VL fx fw c _ _ _ 0 i _ (box_idx _ (by decide) (by decide) i t) (all_mem _ _)
  · unfold run₅.sl.v1722
    rw [all_list]
    exact read_heads KL VL fx fw c _ _ _ 1 i _ (box_idx _ (by decide) (by decide) i t) (all_mem _ _)

/-- A half of the output projection. -/
theorem half_read {o : ℕ} (inb : ∀ a, (![o, 0] : Fin 2 → ℕ) a + S256x768.size a ≤ S512x768.size a) (ho : o ≤ 256) (t : Fin 256) (n : Fin 768) :
    View.readAt (Elt Ideal) woM.view (Rect.unit (s := S512x768) ![o, 0] S256x768.size inb).toLoadRect fo (ix2 t n)
      = fo (ix2 (⟨o + t.val, by omega⟩ : Fin 512) n) := by
  refine congrArg fo (funext fun a => Fin.ext ?_)
  fin_cases a
  · show o + 1 * t.val = o + t.val; omega
  · show 0 + 1 * n.val = n.val; omega

theorem pay254_apply (w : FVec Ideal S256x768 .bf16) (x : FVec Ideal S1x512x256 .bf16) (i : Fin 512) (n : Fin 768) :
    k0_pay254 w x (ix3 (0 : Fin 1) i n) = ∑ t : Fin 256, x (ix3 (0 : Fin 1) i t) * w (ix2 t n) := by
  pointwise [k0_pay254, k0_pay253]

theorem pay255_apply (w : FVec Ideal S256x768 .bf16) (x : FVec Ideal S1x512x256 .bf16) (i : Fin 512) (n : Fin 768) :
    k0_pay255 w x (ix3 (0 : Fin 1) i n) = ∑ t : Fin 256, x (ix3 (0 : Fin 1) i t) * w (ix2 t n) := by
  pointwise [k0_pay255, k0_pay253]

theorem pay292_apply (w : FVec Ideal S256x768 .bf16) (x : FVec Ideal S1x512x256 .bf16) (y : FVec Ideal S1x512x768 .bf16) (i : Fin 512) (n : Fin 768) :
    k0_pay292 w x y (ix3 (0 : Fin 1) i n) = y (ix3 (0 : Fin 1) i n) + ∑ t : Fin 256, x (ix3 (0 : Fin 1) i t) * w (ix2 t n) := by
  pointwise [k0_pay292, k0_pay291]

theorem pay293_apply (w : FVec Ideal S256x768 .bf16) (x : FVec Ideal S1x512x256 .bf16) (y : FVec Ideal S1x512x768 .bf16) (i : Fin 512) (n : Fin 768) :
    k0_pay293 w x y (ix3 (0 : Fin 1) i n) = y (ix3 (0 : Fin 1) i n) + ∑ t : Fin 256, x (ix3 (0 : Fin 1) i t) * w (ix2 t n) := by
  pointwise [k0_pay293, k0_pay291]

/-- The first half of a batch's product, as read back from the output. -/
theorem back_0 (c : Dev nD) (i : Fin 512) (n : Fin 768) :
    run₅.sl.v1716 KL VL fx fw fo c (ix3 (0 : Fin 1) i n)
      = ∑ t : Fin 256, heads KL VL fx fw (ix3 (0 : Fin 2) i (⟨0 + t.val, by omega⟩ : Fin 512)) * fo (ix2 (⟨0 + t.val, by omega⟩ : Fin 512) n) := by
  unfold run₅.sl.v1716
  show oM.view.read (Elt Ideal) (oM.view.writes (Elt Ideal) oM.view.junk _) _ = _
  refine (View.read_writes_cons_unit_of_not_mem oM.view _ _ _ _ _ rfl 0 (Or.inl Nat.one_pos)).trans ?_
  refine (View.read_writes_cons_unit_of_mem oM.view _ _ _ _ _ (ix3 (0 : Fin 1) i n : S1x512x768.Idx) rfl fun a => ?_).trans ?_
  · fin_cases a
    · rfl
    · show 0 + 1 * i.val = 0 + i.val; omega
    · show 0 + 1 * n.val = 0 + n.val; omega
  refine (pay254_apply _ _ i n).trans (Finset.sum_congr rfl fun t _ => ?_)
  rw [(low_columns KL VL fx fw c i t).1, half_read fo _ (by decide)]

theorem back_1 (c : Dev nD) (i : Fin 512) (n : Fin 768) :
    run₅.sl.v1726 KL VL fx fw fo c (ix3 (0 : Fin 1) i n)
      = ∑ t : Fin 256, heads KL VL fx fw (ix3 (1 : Fin 2) i (⟨0 + t.val, by omega⟩ : Fin 512)) * fo (ix2 (⟨0 + t.val, by omega⟩ : Fin 512) n) := by
  unfold run₅.sl.v1726 run₅.sl.H5_3
  show oM.view.read (Elt Ideal) (oM.view.writes (Elt Ideal) oM.view.junk _) _ = _
  refine (View.read_writes_cons_unit_of_not_mem oM.view _ _ _ _ _ rfl 0 (Or.inr (Nat.le_refl 1))).trans ?_
  refine (View.read_writes_cons_unit_of_mem oM.view _ _ _ _ _ (ix3 (0 : Fin 1) i n : S1x512x768.Idx) rfl fun a => ?_).trans ?_
  · fin_cases a
    · rfl
    · show 0 + 1 * i.val = 0 + i.val; omega
    · show 0 + 1 * n.val = 0 + n.val; omega
  refine (pay255_apply _ _ i n).trans (Finset.sum_congr rfl fun t _ => ?_)
  rw [(low_columns KL VL fx fw c i t).2, half_read fo _ (by decide)]

/-- The two halves of the columns together. -/
theorem two_halves (f : Fin 512 → EReal) :
    (∑ t : Fin 256, f ⟨0 + t.val, by omega⟩) + ∑ t : Fin 256, f ⟨256 + t.val, by omega⟩ = ∑ t : Fin 512, f t := by
  rw [Fin.sum_univ_two_halves 256 256 rfl f]
  congr 1

/-- The output of a device. -/
theorem outAt_apply (c : Dev nD) (b : Fin 2) (i : Fin 512) (n : Fin 768) :
    outAt KL VL fx fw fo c (ix3 b i n) = ∑ t : Fin 512, heads KL VL fx fw (ix3 b i t) * fo (ix2 t n) := by
  have hr : rowOf (ix3 b i n) = ix3 (0 : Fin 1) i n := by rw [ix3_eq_valueIdx, ix3_eq_valueIdx]; rfl
  rw [← two_halves]
  fin_cases b
  · refine (if_pos rfl).trans ?_
    rw [hr]
    refine (pay292_apply _ _ _ i n).trans ?_
    rw [back_0]
    refine congrArg _ (Finset.sum_congr rfl fun t _ => ?_)
    rw [(high_columns KL VL fx fw c i t).1, half_read fo _ (by decide)]
    rfl
  · refine (if_neg Nat.one_ne_zero).trans ?_
    rw [hr]
    refine (pay293_apply _ _ _ i n).trans ?_
    rw [back_1]
    refine congrArg _ (Finset.sum_congr rfl fun t _ => ?_)
    rw [(high_columns KL VL fx fw c i t).2, half_read fo _ (by decide)]
    rfl

end Cert.Attn
-- ==== Proof.Softmax.lean ====
/-
The shift of a softmax: with finite scores, weighting by the exponentials of the scores less the greatest, divided by
their sum, is the quotient of the sums weighted by the plain exponentials. The values may be infinite.
-/
module

public import Idealize.ShloMosaic.PureOps.Ideal

@[expose] public section

noncomputable section

namespace Cert.Attn.Math

open Idealize.ShloMosaic

/-- An extended real that is a real number. -/
def Fine (a : EReal) : Prop := ∃ r : ℝ, a = (r : EReal)

theorem fine_coe (r : ℝ) : Fine (r : EReal) := ⟨r, rfl⟩

theorem fine_of_ne {a : EReal} (h : a ≠ ⊤) (h' : a ≠ ⊥) : Fine a := ⟨a.toReal, (EReal.coe_toReal h h').symm⟩

theorem Fine.mul {a b : EReal} (ha : Fine a) (hb : Fine b) : Fine (a * b) := by
  obtain ⟨r, rfl⟩ := ha; obtain ⟨s, rfl⟩ := hb
  exact ⟨r * s, (EReal.coe_mul r s).symm⟩

theorem Fine.add {a b : EReal} (ha : Fine a) (hb : Fine b) : Fine (a + b) := by
  obtain ⟨r, rfl⟩ := ha; obtain ⟨s, rfl⟩ := hb
  exact ⟨r + s, (EReal.coe_add r s).symm⟩

theorem Fine.sum {ι : Type*} (S : Finset ι) (f : ι → EReal) (h : ∀ i, Fine (f i)) : Fine (∑ i ∈ S, f i) := by
  classical
  induction S using Finset.induction_on with
  | empty => exact ⟨0, by simp⟩
  | insert a S ha ih => rw [Finset.sum_insert ha]; exact (h a).add ih

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A factor that is a real number and not negative comes out of a sum, whatever the terms. -/
theorem sum_mul_coe {ι : Type*} (S : Finset ι) (f : ι → EReal) {c : ℝ} (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha,
      EReal.right_distrib_of_nonneg_of_ne_top (EReal.coe_nonneg.mpr hc) (EReal.coe_ne_top c), ih]

theorem div_coe {x : EReal} {t : ℝ} (ht : 0 < t) : Ideal.div x (t : EReal) = x * ((t⁻¹ : ℝ) : EReal) := by
  unfold Ideal.div
  rw [if_neg (by exact_mod_cast ht.ne'), EReal.coe_inv]

variable {ι : Type*} [Fintype ι]

/-- The greatest of the seen scores is a real number, and no seen score is above it. -/
theorem top_fine (M : ι → Prop) [DecidablePred M] (s : ι → ℝ) (j₀ : ι) (h₀ : M j₀) :
    ∃ m : ℝ, Finset.univ.fold max (⊥ : EReal) (fun j => if M j then (s j : EReal) else ⊥) = (m : EReal) := by
  set g : ι → EReal := fun j => if M j then (s j : EReal) else ⊥ with hg
  have key : Fine (Finset.univ.fold max (⊥ : EReal) g) := by
    have h1 : (s j₀ : EReal) ≤ Finset.univ.fold max (⊥ : EReal) g := by
      refine (Finset.le_fold_max _).mpr (Or.inr ⟨j₀, Finset.mem_univ _, ?_⟩)
      simp [hg, h₀]
    refine fine_of_ne ?_ (fun hb => by rw [hb] at h1; exact (EReal.coe_ne_bot _) (le_bot_iff.mp h1))
    refine ne_of_lt ((Finset.fold_max_lt _).mpr ⟨bot_lt_top, fun j _ => ?_⟩)
    simp only [hg]; split
    · exact EReal.coe_lt_top _
    · exact bot_lt_top
  exact key

/-- The shift of a softmax. -/
theorem softmax_shift (M : ι → Prop) [DecidablePred M] (s : ι → EReal) (hs : ∀ j, Fine (s j)) (v : ι → EReal) (j₀ : ι) (h₀ : M j₀)
    (e : ι → EReal) (he : ∀ j, e j = Ideal.exp ((if M j then s j else ⊥) - Finset.univ.fold max (⊥ : EReal) (fun j => if M j then s j else ⊥))) :
    ∑ j, v j * Ideal.div (e j) (∑ j, e j)
      = Ideal.div (∑ j, (if M j then Ideal.exp (s j) else 0) * v j) (∑ j, if M j then Ideal.exp (s j) else 0) := by
  choose r hr using hs
  obtain rfl : s = fun j => (r j : EReal) := funext hr
  obtain ⟨m, hm⟩ := top_fine M r j₀ h₀
  simp only [hm] at he
  set p : ι → ℝ := fun j => if M j then Real.exp (r j - m) else 0 with hp
  have hp0 : ∀ j, 0 ≤ p j := fun j => by simp only [hp]; split <;> [exact (Real.exp_pos _).le; exact le_rfl]
  have hep : ∀ j, e j = (p j : EReal) := fun j => by
    rw [he j]; simp only [hp]
    split
    · rw [← EReal.coe_sub]; rfl
    · rw [EReal.bot_sub]; rfl
  have hT : 0 < ∑ j, p j := Finset.sum_pos' (fun j _ => hp0 j) ⟨j₀, Finset.mem_univ _, by simp only [hp, if_pos h₀]; exact Real.exp_pos _⟩
  have hx : ∀ j, (if M j then Ideal.exp (r j : EReal) else 0) = ((p j * Real.exp m : ℝ) : EReal) := fun j => by
    simp only [hp]
    split
    · rw [← Real.exp_add, sub_add_cancel]; rfl
    · simp
  have hE := Real.exp_pos m
  have hS : 0 < (∑ j, p j) * Real.exp m := mul_pos hT hE
  simp only [hep, hx, ← coe_sum, ← Finset.sum_mul]
  rw [div_coe hS, sum_mul_coe _ _ (inv_nonneg.mpr hS.le)]
  refine Finset.sum_congr rfl fun j _ => ?_
  rw [div_coe hT, ← EReal.coe_mul, mul_comm _ (v j), mul_assoc, ← EReal.coe_mul]
  congr 2
  field_simp

end Cert.Attn.Math
-- ==== Proof.RefValue.lean ====
/-
The reference at the ideal values, element by element.
-/
module

public import proofs.«01_k».proof.Proof.RefMask
public import proofs.«01_k».proof.Proof.Softmax
public import Idealize.ShloMosaic.Lib.Pointwise
public import Idealize.ShloMosaic.Lib.Routing.OpsOrder

@[expose] public section

noncomputable section

namespace Cert.Attn.Ref

open Cert.ReferenceIdeal Cert.ReferenceIdeal.Gen
open Idealize.ShloMosaic
open Idealize.ShloMosaic.TcCoe
open Cert.Attn.Math

variable (x : FVec Ideal S2x2048x768 .bf16) (wq : FVec Ideal S768x512 .bf16) (k v : FVec Ideal S2x2048x8x64 .bf16) (wo : FVec Ideal S512x768 .bf16)

/-- The score of a query and a key. -/
def score (b : Fin 2) (h : Fin 8) (i j : Fin 2048) : EReal :=
  (∑ d : Fin 64, (∑ e : Fin 768, x (ix3 b i e) * wq (ix2 e ⟨h.val * 64 + d.val, by omega⟩)) * k (ix4 b j h d)) * Ideal.ofBits .f32 0x3E000000#32

theorem scores_apply (b : Fin 2) (h : Fin 8) (i j : Fin 2048) : scores x wq k (ix4 b h i j) = score x wq k b h i j := by
  pointwise [scores, score]

theorem ninf : Ideal.ofBits .f32 0xFF800000#32 = ⊥ := by
  simp [Ideal.ofBits, Ideal.ieee]

theorem masked_apply (b : Fin 2) (h : Fin 8) (i j : Fin 2048) :
    masked x wq k (ix4 b h i j) = if Sees i.val j.val then score x wq k b h i j else ⊥ := by
  have h : masked x wq k (ix4 b h i j) = Scalar.select (mask (ix2 i j)) (scores x wq k (ix4 b h i j)) (Ideal.ofBits .f32 0xFF800000#32) := by
    pointwise [masked]
    rfl
  rw [h, mask_apply, scores_apply, ninf]
  split <;> rfl

theorem top_apply (b : Fin 2) (h : Fin 8) (i : Fin 2048) :
    top x wq k (ix3 b h i) = Finset.univ.fold max (⊥ : EReal) (fun j : Fin 2048 => if Sees i.val j.val then score x wq k b h i j else ⊥) := by
  pointwise [top]
  simp only [masked_apply, ninf]

theorem expo_apply (b : Fin 2) (h : Fin 8) (i j : Fin 2048) :
    expo x wq k (ix4 b h i j) = Ideal.exp ((if Sees i.val j.val then score x wq k b h i j else ⊥)
      - Finset.univ.fold max (⊥ : EReal) (fun j : Fin 2048 => if Sees i.val j.val then score x wq k b h i j else ⊥)) := by
  pointwise [expo]
  rw [masked_apply, top_apply]

theorem total_apply (b : Fin 2) (h : Fin 8) (i : Fin 2048) : total x wq k (ix3 b h i) = ∑ j : Fin 2048, expo x wq k (ix4 b h i j) := by
  pointwise [total]

/-- The quotient of the weights where every row keeps a key. -/
theorem quotient_apply (kp : IVec S2048 1) (e : FVec Ideal S2x8x2048x2048 .f32) (z : FVec Ideal S2x8x2048 .f32) (o n : FVec Ideal S_ .f32)
    (b : Fin 2) (h : Fin 8) (i j : Fin 2048) :
    select (broadcastInDim S2x8x2048x2048 ![0, 1, 2, 3] bcast_S1x1x2048x1_S2x8x2048x2048_0_1_2_3 (broadcastInDim S1x1x2048x1 ![2] bcast_S2048_S1x1x2048x1_2 kp))
      (Host.divf e (broadcastInDim S2x8x2048x2048 ![0, 1, 2, 3] bcast_S2x8x2048x1_S2x8x2048x2048_0_1_2_3
        (select (broadcastInDim S2x8x2048x1 ![0, 1, 2, 3] bcast_S1x1x2048x1_S2x8x2048x1_0_1_2_3 (broadcastInDim S1x1x2048x1 ![2] bcast_S2048_S1x1x2048x1_2 kp))
          (broadcastInDim S2x8x2048x1 ![0, 1, 2] bcast_S2x8x2048_S2x8x2048x1_0_1_2 z)
          (broadcastInDim S2x8x2048x1 ![] bcast_S_S2x8x2048x1 o))))
      (broadcastInDim S2x8x2048x2048 ![] bcast_S_S2x8x2048x2048 n) (ix4 b h i j)
      = Scalar.select (kp (ix1 i)) (Ideal.div (e (ix4 b h i j)) (Scalar.select (kp (ix1 i)) (z (ix3 b h i)) (o ix0))) (n ix0) := by
  pointwise

theorem weights_apply (b : Fin 2) (h : Fin 8) (i j : Fin 2048) :
    weights x wq k (ix4 b h i j) = Ideal.div (expo x wq k (ix4 b h i j)) (∑ j : Fin 2048, expo x wq k (ix4 b h i j)) := by
  refine (quotient_apply keep _ _ _ _ b h i j).trans ?_
  rw [keep_apply, total_apply]
  exact Eq.trans (if_pos rfl) (congrArg _ (if_pos rfl))

/-- The product of the values and the weights. -/
theorem dot_values (v : FVec Ideal S2x2048x8x64 .f32) (w : FVec Ideal S2x8x2048x2048 .f32) (b : Fin 2) (h : Fin 8) (d : Fin 64) (i : Fin 2048) :
    Host.dotGeneral dot_S2x2048x8x64_S2x8x2048x2048_S2x8x64x2048_1_3_3_2_02_01 none v w (ix4 b h d i)
      = ∑ j : Fin 2048, v (ix4 b j h d) * w (ix4 b h i j) := by
  pointwise

/-- The weighted sum of values over the seen keys, divided by the sum of the weights. -/
def ctx (b : Fin 2) (h : Fin 8) (d : Fin 64) (i : Fin 2048) : EReal :=
  Ideal.div (∑ j : Fin 2048, (if Sees i.val j.val then Ideal.exp (score x wq k b h i j) else 0) * v (ix4 b j h d))
    (∑ j : Fin 2048, if Sees i.val j.val then Ideal.exp (score x wq k b h i j) else 0)

theorem context_apply (hs : ∀ b h i j, Fine (score x wq k b h i j)) (b : Fin 2) (h : Fin 8) (d : Fin 64) (i : Fin 2048) :
    context x wq k v (ix4 b h d i) = ctx x wq k v b h d i := by
  refine (dot_values _ _ b h d i).trans ?_
  simp only [weights_apply]
  exact softmax_shift (fun j : Fin 2048 => Sees i.val j.val) (fun j => score x wq k b h i j) (fun j => hs b h i j)
    (fun j => v (ix4 b j h d)) i rfl (fun j => expo x wq k (ix4 b h i j)) (fun j => expo_apply x wq k b h i j)

/-- The reference's result, element by element. -/
theorem out_apply (hs : ∀ b h i j, Fine (score x wq k b h i j)) (b : Fin 2) (i : Fin 2048) (n : Fin 768) :
    out x wq k v wo (ix3 b i n)
      = ∑ t : Fin 512, ctx x wq k v b ⟨t.val / 64, by omega⟩ ⟨t.val % 64, by omega⟩ i * wo (ix2 t n) := by
  have h : out x wq k v wo (ix3 b i n) = ∑ t : Fin 512, context x wq k v (ix4 b ⟨t.val / 64, by omega⟩ ⟨t.val % 64, by omega⟩ i) * wo (ix2 t n) := by
    pointwise [out]
  rw [h]
  exact Finset.sum_congr rfl fun t _ => by rw [context_apply x wq k v hs]

theorem eighth : Ideal.ofBits .f32 0x3E000000#32 = ((1 / 8 : ℝ) : EReal) := by
  simp [Ideal.ofBits, Ideal.ieee, -EReal.coe_mul]
  norm_num

/-- With finite queries' factors and keys every score is a real number. -/
theorem score_fine (hx : ∀ i, Fine (x i)) (hw : ∀ i, Fine (wq i)) (hk : ∀ i, Fine (k i)) (b : Fin 2) (h : Fin 8) (i j : Fin 2048) :
    Fine (score x wq k b h i j) := by
  refine Fine.mul (Fine.sum _ _ fun d => (Fine.sum _ _ fun e => (hx _).mul (hw _)).mul (hk _)) ?_
  exact ⟨_, eighth⟩

end Cert.Attn.Ref
-- ==== Proof.Tie.lean ====
/-
The output of a device is its rows of the reference's result: the keys of the four devices, in any order, are the keys of
the whole arrays.
-/
module

public import proofs.«01_k».proof.Proof.Columns
public import proofs.«01_k».proof.Proof.RefValue

@[expose] public section

noncomputable section

namespace Cert.Attn

open Cert.KernelIdeal Cert.KernelIdeal.Gen
open Idealize.ShloMosaic
open Idealize.ShloMosaic.TcCoe

/-- The row of the whole arrays that is row `i` of device `e`. -/
def row (e : Fin 4) (i : Fin 512) : Fin 2048 := ⟨512 * e.val + i.val, by omega⟩

theorem sees_row (c e : Fin 4) (i j : Fin 512) : Ref.Sees (row c i).val (row e j).val ↔ Ref.Sees i.val j.val := by
  unfold Ref.Sees row
  dsimp only
  omega

/-- A sum over the rows of the whole arrays, device by device. -/
theorem sum_rows (f : Fin 2048 → EReal) : ∑ j : Fin 2048, f j = ∑ e : Fin 4, ∑ j : Fin 512, f (row e j) := by
  rw [← Fintype.sum_prod_type' (f := fun e j => f (row e j)), ← (finProdFinEquiv (m := 4) (n := 512)).sum_comp f]
  exact Finset.sum_congr rfl fun p _ => congrArg f (Fin.ext (Nat.add_comm _ _))

variable (KL VL : Dev nD → S2x512x512.Idx → Elt Ideal .bf16)
variable (fx : S2x512x768.Idx → Elt Ideal .bf16) (fw : S768x512.Idx → Elt Ideal .bf16) (fo : S512x768.Idx → Elt Ideal .bf16)
variable (x : FVec Ideal Cert.ReferenceIdeal.S2x2048x768 .bf16) (k v : FVec Ideal Cert.ReferenceIdeal.S2x2048x8x64 .bf16)

theorem kscore_eq (c e : Fin 4) (hx : ∀ b i u, fx (ix3 b i u) = x (ix3 b (row c i) u))
    (hk : ∀ (e : Fin 4) b j (h : Fin 8) (d : Fin 64), KL e (ix3 b j (⟨h.val * 64 + d.val, by omega⟩ : Fin 512)) = k (ix4 b (row e j) h d))
    (b : Fin 2) (h : Fin 8) (i j : Fin 512) :
    kscore KL fx fw e b h i j = Ref.score x fw k b h (row c i) (row e j) := by
  unfold kscore Ref.score
  refine congrArg (· * Ideal.ofBits .f32 0x3E000000#32) (Finset.sum_congr rfl fun d _ => ?_)
  rw [hk]
  refine congrArg (· * k (ix4 b (row e j) h d)) (Finset.sum_congr rfl fun u _ => ?_)
  rw [hx]

theorem kweight_eq (c e : Fin 4) (hx : ∀ b i u, fx (ix3 b i u) = x (ix3 b (row c i) u))
    (hk : ∀ (e : Fin 4) b j (h : Fin 8) (d : Fin 64), KL e (ix3 b j (⟨h.val * 64 + d.val, by omega⟩ : Fin 512)) = k (ix4 b (row e j) h d))
    (b : Fin 2) (h : Fin 8) (i j : Fin 512) :
    kweight KL fx fw e b h i j = if Ref.Sees (row c i).val (row e j).val then Ideal.exp (Ref.score x fw k b h (row c i) (row e j)) else 0 := by
  unfold kweight
  rw [kscore_eq KL fx fw x k c e hx hk]
  exact if_congr (sees_row c e i j).symm rfl rfl

theorem headVal_eq (c : Fin 4) (hx : ∀ b i u, fx (ix3 b i u) = x (ix3 b (row c i) u))
    (hk : ∀ (e : Fin 4) b j (h : Fin 8) (d : Fin 64), KL e (ix3 b j (⟨h.val * 64 + d.val, by omega⟩ : Fin 512)) = k (ix4 b (row e j) h d))
    (hv : ∀ (e : Fin 4) b j (h : Fin 8) (d : Fin 64), VL e (ix3 b j (⟨h.val * 64 + d.val, by omega⟩ : Fin 512)) = v (ix4 b (row e j) h d))
    (b : Fin 2) (h : Fin 8) (i : Fin 512) (d : Fin 64) :
    headVal KL VL fx fw b h i d = Ref.ctx x fw k v b h d (row c i) := by
  unfold headVal Ref.ctx accOf sumOf
  rw [sum_rows, sum_rows]
  congr 1
  · refine Finset.sum_congr rfl fun e _ => Finset.sum_congr rfl fun j _ => ?_
    rw [kweight_eq KL fx fw x k c e hx hk, hv]
  · exact Finset.sum_congr rfl fun e _ => Finset.sum_congr rfl fun j _ => kweight_eq KL fx fw x k c e hx hk b h i j

/-- The output of a device is its rows of the reference's result. -/
theorem outAt_eq (c : Fin 4) (hx : ∀ b i u, fx (ix3 b i u) = x (ix3 b (row c i) u))
    (hk : ∀ (e : Fin 4) b j (h : Fin 8) (d : Fin 64), KL e (ix3 b j (⟨h.val * 64 + d.val, by omega⟩ : Fin 512)) = k (ix4 b (row e j) h d))
    (hv : ∀ (e : Fin 4) b j (h : Fin 8) (d : Fin 64), VL e (ix3 b j (⟨h.val * 64 + d.val, by omega⟩ : Fin 512)) = v (ix4 b (row e j) h d))
    (hs : ∀ b h i j, Math.Fine (Ref.score x fw k b h i j))
    (b : Fin 2) (i : Fin 512) (n : Fin 768) :
    outAt KL VL fx fw fo c (ix3 b i n) = Ref.out x fw k v fo (ix3 b (row c i) n) := by
  rw [outAt_apply, Ref.out_apply x fw k v fo hs]
  exact Finset.sum_congr rfl fun t _ => congrArg (· * fo (ix2 t n)) (headVal_eq KL VL fx fw x k v c hx hk hv b _ i _)

end Cert.Attn
-- ==== Proof.PreRead.lean ====
/-
What the precondition says: the elements of the inputs, of the query projection and of the keys are real numbers.
-/
module

public import proofs.«01_k».proof.Defs
public import proofs.«01_k».proof.Proof.Softmax
public import Idealize.ShloMosaic.Lib.ReduceAll
public import Idealize.ShloMosaic.Lib.Pointwise

@[expose] public section

noncomputable section

namespace Cert.Attn

open Idealize.ShloMosaic
open Cert.Attn.Math

instance preFacts : Cert.Pre_finite_queries_and_keys_KernelIdeal.Facts where
  bcast_S_S2x512x768 := by decide
  reducesTo_S2x512x768_S_d0_1_2 := by decide
  h_S_ := by decide
  bcast_S_S768x512 := by decide
  reducesTo_S768x512_S_d0_1 := by decide
  bcast_S_S2x512x8x64 := by decide
  reducesTo_S2x512x8x64_S_d0_1_2_3 := by decide

instance preFactsReference : Cert.Pre_finite_queries_and_keys_ReferenceIdeal.Facts where
  bcast_S_S2x2048x768 := by decide
  reducesTo_S2x2048x768_S_d0_1_2 := by decide
  h_S_ := by decide
  bcast_S_S768x512 := by decide
  reducesTo_S768x512_S_d0_1 := by decide
  bcast_S_S2x2048x8x64 := by decide
  reducesTo_S2x2048x8x64_S_d0_1_2_3 := by decide

theorem pinf : Ideal.ofBits .bf16 0x7F80#16 = ⊤ := by
  simp [Ideal.ofBits, Ideal.ieee]

/-- A value whose size is less than the infinity is a real number. -/
theorem fine_of_lt (a : EReal) (h : FloatOps.cmpf (F := Ideal) (φ := .bf16) .olt (FloatOps.hostAbsf (F := Ideal) (φ := .bf16) a) (Ideal.ofBits .bf16 0x7F80#16) = 1#1) : Fine a := by
  have h' : max a (-a) < (⊤ : EReal) := by
    by_contra hn
    have : FloatOps.cmpf (F := Ideal) (φ := .bf16) .olt (FloatOps.hostAbsf (F := Ideal) (φ := .bf16) a) (Ideal.ofBits .bf16 0x7F80#16) = 0#1 := by
      rw [pinf]
      show BitVec.ofBool (decide (max a (-a) < (⊤ : EReal))) = 0#1
      rw [decide_eq_false hn]; rfl
    rw [this] at h
    exact absurd h (by decide)
  refine fine_of_ne (fun e => ?_) (fun e => ?_) <;> subst e <;> simp at h'

theorem both {a b : BitVec 1} (h : IntOp.andi a b = 1#1) : a = 1#1 ∧ b = 1#1 := by
  revert a b; decide

open Cert.Pre_finite_queries_and_keys_KernelIdeal in
/-- All of an array's elements pass the test. -/
theorem fine_of_all {s : Shape} {axes : List (Fin s.rank)} (x : FVec Ideal s .bf16) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .bf16 0x7F80#16))) (constantI S_ 1 1#1) hr hu ix0 = 1#1)
    (i : s.Idx) : Fine (x i) := by
  haveI : Subsingleton S_.Idx := ⟨fun a b => funext fun k => k.elim0⟩
  exact fine_of_lt _ (Host.reduce_andi_all _ _ hr hu _ h i)

open Cert.Pre_finite_queries_and_keys_KernelIdeal in
theorem fine_inputs (x : FVec Ideal S2x512x768 .bf16) (w : FVec Ideal S768x512 .bf16) (k v : FVec Ideal S2x512x8x64 .bf16) (o : FVec Ideal S512x768 .bf16)
    (h : fn (F := Ideal) x w k v o = fun _ => 1#1) : (∀ i, Fine (x i)) ∧ (∀ i, Fine (w i)) ∧ ∀ i, Fine (k i) := by
  have h0 := congrFun h ix0
  obtain ⟨h1, hk⟩ := both h0
  obtain ⟨hx, hw⟩ := both h1
  exact ⟨fine_of_all x _ _ _ hx, fine_of_all w _ _ _ hw, fine_of_all k _ _ _ hk⟩

end Cert.Attn
-- ==== Proof.Algebraic.lean ====
/-
# The value

The four devices leave, each in its own output, their rows of the reference's result.
-/
module

public import proofs.«01_k».proof.Proof.Frames
public import proofs.«01_k».proof.Proof.Arrays
public import proofs.«01_k».proof.Proof.Tie
public import proofs.«01_k».proof.Proof.PreRead
public import proofs.«01_k».proof.Proof.RefSpec
public import Idealize.ShloMosaic.Lib.Layout

@[expose] public section

noncomputable section

namespace Cert.Attn

open Idealize.ShloMosaic Idealize.SL.Sem Cert.KernelIdeal Cert.KernelIdeal.Gen
open Cert.Attn.Math

/-! ## A device's block of a whole array -/

theorem block3 {α : Type} (v : (⟨3, ![2, 2048, 768]⟩ : Shape).Idx → α) (c : Fin 4) (b : Fin 2) (i : Fin 512) (u : Fin 768) :
    Layout.block ⟨3, ![2, 512, 768]⟩ ⟨3, ![2, 2048, 768]⟩ 1 4 c v (by decide) (ix3 b i u) = v (ix3 b (row c i) u) := by
  rw [Layout.block_apply]
  refine congrArg v (funext fun a => Fin.ext ?_)
  fin_cases a
  · rfl
  · show c.val * 512 + i.val = 512 * c.val + i.val
    omega
  · rfl

theorem block4 {α : Type} (v : (⟨4, ![2, 2048, 8, 64]⟩ : Shape).Idx → α) (c : Fin 4) (b : Fin 2) (i : Fin 512) (h : Fin 8) (d : Fin 64) :
    Layout.block ⟨4, ![2, 512, 8, 64]⟩ ⟨4, ![2, 2048, 8, 64]⟩ 1 4 c v (by decide) (ix4 b i h d) = v (ix4 b (row c i) h d) := by
  rw [Layout.block_apply]
  refine congrArg v (funext fun a => Fin.ext ?_)
  fin_cases a
  · rfl
  · show c.val * 512 + i.val = 512 * c.val + i.val
    omega
  · rfl
  · rfl

/-- Every row of the whole arrays is a row of some device. -/
theorem row_cover (r : Fin 2048) : ∃ (e : Fin 4) (i : Fin 512), r = row e i :=
  ⟨⟨r.val / 512, by omega⟩, ⟨r.val % 512, by omega⟩, Fin.ext (by show r.val = 512 * (r.val / 512) + r.val % 512; omega)⟩

/-! ## The rows that travel: the heads side by side -/

theorem pay1_apply (f : S2x512x8x64.Idx → Elt Ideal .bf16) (b : Fin 2) (j : Fin 512) (h : Fin 8) (d : Fin 64) :
    k0_pay1 f (ix3 b j ⟨h.val * 64 + d.val, by omega⟩) = f (ix4 b j h d) := by
  pointwise [k0_pay1]

theorem pay2_apply (f : S2x512x8x64.Idx → Elt Ideal .bf16) (b : Fin 2) (j : Fin 512) (h : Fin 8) (d : Fin 64) :
    k0_pay2 f (ix3 b j ⟨h.val * 64 + d.val, by omega⟩) = f (ix4 b j h d) := by
  pointwise [k0_pay2]

/-! ## One device's output -/

theorem out_block (x : FVec Ideal Cert.ReferenceIdeal.S2x2048x768 .bf16) (w : S768x512.Idx → Elt Ideal .bf16)
    (k v : FVec Ideal Cert.ReferenceIdeal.S2x2048x8x64 .bf16) (o : S512x768.Idx → Elt Ideal .bf16)
    (hx : ∀ i, Fine (x i)) (hw : ∀ i, Fine (w i)) (hk : ∀ i, Fine (k i))
    (KL VL : Dev nD → S2x512x512.Idx → Elt Ideal .bf16) (fx : S2x512x768.Idx → Elt Ideal .bf16) (fk fv : Dev nD → S2x512x8x64.Idx → Elt Ideal .bf16)
    (c : Fin 4) (ex : fx = Layout.block ⟨3, ![2, 512, 768]⟩ ⟨3, ![2, 2048, 768]⟩ 1 4 c x)
    (ek : ∀ e : Fin 4, fk e = Layout.block ⟨4, ![2, 512, 8, 64]⟩ ⟨4, ![2, 2048, 8, 64]⟩ 1 4 e k)
    (ev : ∀ e : Fin 4, fv e = Layout.block ⟨4, ![2, 512, 8, 64]⟩ ⟨4, ![2, 2048, 8, 64]⟩ 1 4 e v)
    (eK : ∀ e, KL e = k0_pay1 (fk e)) (eV : ∀ e, VL e = k0_pay2 (fv e)) :
    outAt KL VL fx w o c = Layout.block ⟨3, ![2, 512, 768]⟩ ⟨3, ![2, 2048, 768]⟩ 1 4 c (Ref.out x w k v o) := by
  funext i
  obtain ⟨b, r, n, rfl⟩ : ∃ (b : Fin 2) (r : Fin 512) (n : Fin 768), i = ix3 b r n := ⟨_, _, _, eq_ix3 i⟩
  refine Eq.trans ?_ (block3 _ c b r n).symm
  refine outAt_eq KL VL fx w o x k v c ?_ ?_ ?_ (fun b h i j => Ref.score_fine x w k hx hw hk b h i j) _ _ _
  · intro b i u
    rw [ex]
    exact block3 _ _ _ _ _
  · intro e b j h d
    rw [eK, pay1_apply, ek]
    exact block4 _ _ _ _ _ _
  · intro e b j h d
    rw [eV, pay2_apply, ev]
    exact block4 _ _ _ _ _ _

theorem fine3 (x : (⟨3, ![2, 2048, 768]⟩ : Shape).Idx → EReal) (f : Fin 4 → (⟨3, ![2, 512, 768]⟩ : Shape).Idx → EReal)
    (ex : ∀ c : Fin 4, f c = Layout.block ⟨3, ![2, 512, 768]⟩ ⟨3, ![2, 2048, 768]⟩ 1 4 c x) (hf : ∀ c i, Fine (f c i)) (i) : Fine (x i) := by
  obtain ⟨b, j, u, rfl⟩ : ∃ (b : Fin 2) (j : Fin 2048) (u : Fin 768), i = ix3 b j u := ⟨_, _, _, eq_ix3 i⟩
  obtain ⟨e, r, rfl⟩ := row_cover j
  rw [← block3 x e b r u, ← ex]
  exact hf _ _

theorem fine4 (x : (⟨4, ![2, 2048, 8, 64]⟩ : Shape).Idx → EReal) (f : Fin 4 → (⟨4, ![2, 512, 8, 64]⟩ : Shape).Idx → EReal)
    (ex : ∀ c : Fin 4, f c = Layout.block ⟨4, ![2, 512, 8, 64]⟩ ⟨4, ![2, 2048, 8, 64]⟩ 1 4 c x) (hf : ∀ c i, Fine (f c i)) (i) : Fine (x i) := by
  obtain ⟨b, j, h, d, rfl⟩ : ∃ (b : Fin 2) (j : Fin 2048) (h : Fin 8) (d : Fin 64), i = ix4 b j h d := ⟨_, _, _, _, eq_ix4 i⟩
  obtain ⟨e, r, rfl⟩ := row_cover j
  rw [← block4 x e b r h d, ← ex]
  exact hf _ _

theorem algebraic : Cert.algebraic_KernelIdeal_ReferenceIdeal_pre_finite_queries_and_keys_KernelIdeal := by
  intro m g m' g' hpre hin
  have hfine := fun c => fine_inputs _ _ _ _ _ (hpre c)
  have hx := fine3 _ _ (fun c => (hin c).1) (fun c i => (hfine c).1 i)
  have hw : ∀ i, Fine (m' (((0 : Dev Cert.ReferenceIdeal.nD).tc : Thread Cert.ReferenceIdeal.nD Cert.ReferenceIdeal.τ).loc Cert.ReferenceIdeal.main_arg1) i) :=
    fun i => (hin 0).2.1 ▸ (hfine 0).2.1 i
  have hk := fine4 _ _ (fun c => (hin c).2.2.1) (fun c i => (hfine c).2.2 i)
  refine ⟨Cert.ReferenceIdeal.Value.res_main_v49 m' 0, ?_, (θ_run _ _ _).mono (fun _ h => h 0) (Cert.ReferenceIdeal.Value.run (F := Ideal) m' g')⟩
  refine (θ_run _ _ _).mono (fun r h c => ⟨?_, (h.1 c).2⟩) (run_args (F := Ideal) m g)
  rw [(h.1 c).1, final_out, Ref.out_eq]
  show outAt (KLOf m g) (VLOf m g) (fxOf m g c) (fwOf m g c) (foOf m g c) c = _
  rw [fwOf_eq, foOf_eq, (hin c).2.1, (hin c).2.2.2.2]
  exact out_block _ _ _ _ _ hx hw hk (KLOf m g) (VLOf m g) _ (fkOf m g) (fvOf m g) c ((fxOf_eq m g c).trans (hin c).1)
    (fun e => (fkOf_eq m g e).trans (hin e).2.2.1) (fun e => (fvOf_eq m g e).trans (hin e).2.2.2.1) (fun _ => rfl) (fun _ => rfl)

end Cert.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Attn.preFacts, Cert.Attn.preFactsReference,
  Cert.Attn.frame_kernel,
  Cert.Attn.frame_kernelIdeal, fun m g _ => Cert.Attn.frame_kernelIdeal m g trivial,
  Cert.Attn.frame_reference, fun m g _ => Cert.Attn.frame_reference m g trivial,
  trivial, Cert.Attn.algebraic⟩

end Cert.Proof

end
